-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "rope" .f32 0xBE549A78#32 ((-((1 / 64) * ((Real.log 10000) * (Real.log 2)⁻¹)) : ℝ) : EReal)
  ∧ IdealRules.named_const.Statement Cert.KernelIdeal.κ "scale2" .f32 0x3E0293EE#32 (((Real.log 2)⁻¹ * (Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x2048 : Shape := ⟨3, ![1, 2048, 2048]⟩
abbrev S1x2048 : Shape := ⟨2, ![1, 2048]⟩
abbrev S2048x2048 : Shape := ⟨2, ![2048, 2048]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S1x2048x2048 .f32) (main_arg1 : IVec S1x2048 32) (main_arg2 : FVec F S2048x2048 .f32) (main_arg3 : FVec F S2048x2048 .f32) (main_arg4 : FVec F S2048x2048 .f32) (main_arg5 : FVec F S2048x2048 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S2048x2048 .f32 := Host.absf main_arg2
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S1x2048x2048 : Shape := ⟨3, ![1, 2048, 2048]⟩
abbrev S1x2048 : Shape := ⟨2, ![1, 2048]⟩
abbrev S2048x2048 : Shape := ⟨2, ![2048, 2048]⟩
abbrev S2048x1 : Shape := ⟨2, ![2048, 1]⟩
abbrev S256x2048 : Shape := ⟨2, ![256, 2048]⟩
abbrev S2048x256 : Shape := ⟨2, ![2048, 256]⟩
abbrev S2048x64 : Shape := ⟨2, ![2048, 64]⟩
abbrev S2048x128 : Shape := ⟨2, ![2048, 128]⟩
abbrev S768x2048 : Shape := ⟨2, ![768, 2048]⟩
abbrev S2048x768 : Shape := ⟨2, ![2048, 768]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1024x128 : Shape := ⟨2, ![1024, 128]⟩
abbrev S512x1024 : Shape := ⟨2, ![512, 1024]⟩
abbrev S1536x128 : Shape := ⟨2, ![1536, 128]⟩
abbrev S512x1536 : Shape := ⟨2, ![512, 1536]⟩
abbrev S512x2048 : Shape := ⟨2, ![512, 2048]⟩

abbrev nBuf : Space → Nat
  | .hbm => 12
  | .vmem => 13
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .i32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x1, .i32⟩
  | .hbm, ⟨8, _⟩ => ⟨S2048x1, .f32⟩
  | .hbm, ⟨9, _⟩ => ⟨S2048x2048, .bf16⟩
  | .hbm, ⟨10, _⟩ => ⟨S2048x2048, .f32⟩
  | .hbm, ⟨11, _⟩ => ⟨S1x2048x2048, .f32⟩
  | .local _ .vmem, ⟨0, _⟩ => ⟨S2048x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S2048x1, .f32⟩
  | .local _ .vmem, ⟨8, _⟩ => ⟨S2048x256, .bf16⟩
  | .local _ .vmem, ⟨9, _⟩ => ⟨S2048x256, .bf16⟩
  | .local _ .vmem, ⟨10, _⟩ => ⟨S2048x2048, .bf16⟩
  | .local _ .vmem, ⟨11, _⟩ => ⟨S2048x2048, .f32⟩
  | .local _ .vmem, ⟨12, _⟩ => ⟨S2048x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem2_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== KernelIdeal.lean ====
variable {F : FTy → Type} [FloatOps F] [Named F]
def κ : String → Option EReal := fun
  | "rope" => some ((-((1 / 64) * ((Real.log 10000) * (Real.log 2)⁻¹)) : ℝ) : EReal)
  | "scale2" => some (((Real.log 2)⁻¹ * (Real.sqrt 128)⁻¹ : ℝ) : EReal)
  | _ => none
-- ==== ReferenceIdeal.lean ====
abbrev S1x2048x2048 : Shape := ⟨3, ![1, 2048, 2048]⟩
abbrev S1x2048 : Shape := ⟨2, ![1, 2048]⟩
abbrev S2048x2048 : Shape := ⟨2, ![2048, 2048]⟩
abbrev S1x2048x16x128 : Shape := ⟨4, ![1, 2048, 16, 128]⟩
abbrev S1x16x2048x128 : Shape := ⟨4, ![1, 16, 2048, 128]⟩
abbrev S64 : Shape := ⟨1, ![64]⟩
abbrev S_ : Shape := ⟨0, ![]⟩
abbrev S1x2048x1 : Shape := ⟨3, ![1, 2048, 1]⟩
abbrev S1x1x64 : Shape := ⟨3, ![1, 1, 64]⟩
abbrev S1x2048x64 : Shape := ⟨3, ![1, 2048, 64]⟩
abbrev S1x2048x128 : Shape := ⟨3, ![1, 2048, 128]⟩
abbrev S1x1x2048x128 : Shape := ⟨4, ![1, 1, 2048, 128]⟩
abbrev S1x16x2048x64 : Shape := ⟨4, ![1, 16, 2048, 64]⟩
abbrev S1x16x2048x2048 : Shape := ⟨4, ![1, 16, 2048, 2048]⟩
abbrev S1x1x2048x2048 : Shape := ⟨4, ![1, 1, 2048, 2048]⟩
abbrev S1x16x2048 : Shape := ⟨3, ![1, 16, 2048]⟩
abbrev S1x16x2048x1 : Shape := ⟨4, ![1, 16, 2048, 1]⟩

abbrev nBuf : Space → Nat
  | .hbm => 110
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .i32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S1x2048x2048, .f32⟩
  | .hbm, ⟨8, _⟩ => ⟨S2048x2048, .f32⟩
  | .hbm, ⟨9, _⟩ => ⟨S1x2048x2048, .f32⟩
  | .hbm, ⟨10, _⟩ => ⟨S2048x2048, .f32⟩
  | .hbm, ⟨11, _⟩ => ⟨S1x2048x2048, .f32⟩
  | .hbm, ⟨12, _⟩ => ⟨S1x2048x16x128, .f32⟩
  | .hbm, ⟨13, _⟩ => ⟨S1x16x2048x128, .f32⟩
  | .hbm, ⟨14, _⟩ => ⟨S1x2048x16x128, .f32⟩
  | .hbm, ⟨15, _⟩ => ⟨S1x16x2048x128, .f32⟩
  | .hbm, ⟨16, _⟩ => ⟨S1x2048x16x128, .f32⟩
  | .hbm, ⟨17, _⟩ => ⟨S1x16x2048x128, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S1x2048, .f32⟩
  | .hbm, ⟨35, _⟩ => ⟨S1x2048x1, .f32⟩
  | .hbm, ⟨36, _⟩ => ⟨S1x1x64, .f32⟩
  | .hbm, ⟨37, _⟩ => ⟨S1x2048x64, .f32⟩
  | .hbm, ⟨38, _⟩ => ⟨S1x2048x64, .f32⟩
  | .hbm, ⟨39, _⟩ => ⟨S1x2048x64, .f32⟩
  | .hbm, ⟨40, _⟩ => ⟨S1x2048x128, .f32⟩
  | .hbm, ⟨41, _⟩ => ⟨S1x2048x128, .f32⟩
  | .hbm, ⟨42, _⟩ => ⟨S1x1x2048x128, .f32⟩
  | .hbm, ⟨43, _⟩ => ⟨S1x2048x128, .f32⟩
  | .hbm, ⟨44, _⟩ => ⟨S1x1x2048x128, .f32⟩
  | .hbm, ⟨45, _⟩ => ⟨S1x16x2048x128, .f32⟩
  | .hbm, ⟨46, _⟩ => ⟨S1x16x2048x128, .f32⟩
  | .hbm, ⟨47, _⟩ => ⟨S1x16x2048x64, .f32⟩
  | .hbm, ⟨48, _⟩ => ⟨S1x16x2048x64, .f32⟩
  | .hbm, ⟨49, _⟩ => ⟨S1x16x2048x64, .f32⟩
  | .hbm, ⟨50, _⟩ => ⟨S1x16x2048x128, .f32⟩
  | .hbm, ⟨51, _⟩ => ⟨S1x16x2048x128, .f32⟩
  | .hbm, ⟨52, _⟩ => ⟨S1x16x2048x128, .f32⟩
  | .hbm, ⟨53, _⟩ => ⟨S1x16x2048x128, .f32⟩
  | .hbm, ⟨54, _⟩ => ⟨S1x16x2048x128, .f32⟩
  | .hbm, ⟨55, _⟩ => ⟨S1x16x2048x128, .f32⟩
  | .hbm, ⟨56, _⟩ => ⟨S1x16x2048x64, .f32⟩
  | .hbm, ⟨57, _⟩ => ⟨S1x16x2048x64, .f32⟩
  | .hbm, ⟨58, _⟩ => ⟨S1x16x2048x64, .f32⟩
  | .hbm, ⟨59, _⟩ => ⟨S1x16x2048x128, .f32⟩
  | .hbm, ⟨60, _⟩ => ⟨S1x16x2048x128, .f32⟩
  | .hbm, ⟨61, _⟩ => ⟨S1x16x2048x128, .f32⟩
  | .hbm, ⟨62, _⟩ => ⟨S1x16x2048x128, .f32⟩
  | .hbm, ⟨63, _⟩ => ⟨S1x16x2048x2048, .f32⟩
  | .hbm, ⟨64, _⟩ => ⟨S_, .f32⟩
  | .hbm, ⟨65, _⟩ => ⟨S_, .f32⟩
  | .hbm, ⟨66, _⟩ => ⟨S1x16x2048x2048, .f32⟩
  | .hbm, ⟨67, _⟩ => ⟨S1x16x2048x2048, .f32⟩
  | .hbm, ⟨68, _⟩ => ⟨S_, .i1⟩
  | .hbm, ⟨69, _⟩ => ⟨S2048x2048, .i1⟩
  | .hbm, ⟨70, _⟩ => ⟨S2048x2048, .i32⟩
  | .hbm, ⟨71, _⟩ => ⟨S_, .i32⟩
  | .hbm, ⟨72, _⟩ => ⟨S2048x2048, .i32⟩
  | .hbm, ⟨73, _⟩ => ⟨S2048x2048, .i32⟩
  | .hbm, ⟨74, _⟩ => ⟨S2048x2048, .i32⟩
  | .hbm, ⟨75, _⟩ => ⟨S2048x2048, .i1⟩
  | .hbm, ⟨76, _⟩ => ⟨S_, .i1⟩
  | .hbm, ⟨77, _⟩ => ⟨S2048x2048, .i1⟩
  | .hbm, ⟨78, _⟩ => ⟨S2048x2048, .i1⟩
  | .hbm, ⟨79, _⟩ => ⟨S_, .f32⟩
  | .hbm, ⟨80, _⟩ => ⟨S_, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S1x1x2048x2048, .f32⟩
  | .hbm, ⟨85, _⟩ => ⟨S1x1x2048x2048, .f32⟩
  | .hbm, ⟨86, _⟩ => ⟨S1x16x2048x2048, .f32⟩
  | .hbm, ⟨87, _⟩ => ⟨S1x16x2048x2048, .f32⟩
  | .hbm, ⟨88, _⟩ => ⟨S_, .f32⟩
  | .hbm, ⟨89, _⟩ => ⟨S1x16x2048x2048, .f32⟩
  | .hbm, ⟨90, _⟩ => ⟨S1x16x2048x2048, .f32⟩
  | .hbm, ⟨91, _⟩ => ⟨S_, .f32⟩
  | .hbm, ⟨92, _⟩ => ⟨S1x16x2048, .f32⟩
  | .hbm, ⟨93, _⟩ => ⟨S_, .f32⟩
  | .hbm, ⟨94, _⟩ => ⟨S1x16x2048, .f32⟩
  | .hbm, ⟨95, _⟩ => ⟨S1x16x2048, .f32⟩
  | .hbm, ⟨96, _⟩ => ⟨S1x16x2048x1, .f32⟩
  | .hbm, ⟨97, _⟩ => ⟨S1x16x2048x2048, .f32⟩
  | .hbm, ⟨98, _⟩ => ⟨S1x16x2048x2048, .f32⟩
  | .hbm, ⟨99, _⟩ => ⟨S1x16x2048x2048, .f32⟩
  | .hbm, ⟨100, _⟩ => ⟨S_, .f32⟩
  | .hbm, ⟨101, _⟩ => ⟨S1x16x2048, .f32⟩
  | .hbm, ⟨102, _⟩ => ⟨S1x16x2048x1, .f32⟩
  | .hbm, ⟨103, _⟩ => ⟨S1x16x2048x2048, .f32⟩
  | .hbm, ⟨104, _⟩ => ⟨S1x16x2048x2048, .f32⟩
  | .hbm, ⟨105, _⟩ => ⟨S1x16x2048x128, .f32⟩
  | .hbm, ⟨106, _⟩ => ⟨S1x2048x16x128, .f32⟩
  | .hbm, ⟨107, _⟩ => ⟨S1x2048x2048, .f32⟩
  | .hbm, ⟨108, _⟩ => ⟨S2048x2048, .f32⟩
  | .hbm, ⟨109, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_c : Ref sig .tc := ⟨.hbm, 68, rfl⟩
abbrev main_v56 : Ref sig .tc := ⟨.hbm, 69, rfl⟩
abbrev main_call0_v0 : Ref sig .tc := ⟨.hbm, 70, rfl⟩
abbrev main_call0_c : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_c_0 : Ref sig .tc := ⟨.hbm, 76, rfl⟩
abbrev main_call0_v5 : Ref sig .tc := ⟨.hbm, 77, rfl⟩
abbrev main_v57 : Ref sig .tc := ⟨.hbm, 78, rfl⟩
abbrev main_cst_5 : Ref sig .tc := ⟨.hbm, 79, rfl⟩
abbrev main_cst_6 : Ref sig .tc := ⟨.hbm, 80, rfl⟩
abbrev main_call1_v0 : Ref sig .tc := ⟨.hbm, 81, rfl⟩
abbrev main_call1_v1 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_7 : Ref sig .tc := ⟨.hbm, 88, rfl⟩
abbrev main_v63 : Ref sig .tc := ⟨.hbm, 89, rfl⟩
abbrev main_v64 : Ref sig .tc := ⟨.hbm, 90, rfl⟩
abbrev main_cst_8 : Ref sig .tc := ⟨.hbm, 91, rfl⟩
abbrev main_v65 : Ref sig .tc := ⟨.hbm, 92, rfl⟩
abbrev main_cst_9 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_10 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩

abbrev nD : Nat := 1
abbrev τ : Topo := Topo.v7x

variable {F : FTy → Type} [FloatOps F]
-- ==== Proof.KernelRun.lean ====
/- The kernel's run, with the result array it ends at. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel ends, nothing faulting, with its result array at the last boundary's contents and its
    arguments as launched. -/
theorem run_value : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => ⟨h c _ (mem_uc main_v5 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c)⟩)

end Cert.KernelIdeal.Gen

end
-- ==== Proof.Softmax.lean ====
/- The mathematics of one attention row, over the extended reals and apart from any program: which extended reals are
   real, the two scalings of a score, the two spellings of a rotation frequency, and the equation between a causal
   softmax taken without its maximum in base two and one taken with its maximum in base e. -/
module

public import Idealize.ShloMosaic.PureOps.Ideal.Laws
public import Idealize.ShloMosaic.Lib.WordCmp

@[expose] public section

noncomputable section

namespace Cert.Attn

open Idealize.ShloMosaic
open scoped BigOperators

/-! ## Extended reals that are real -/

/-- `x` is a real number. -/
def IsReal (x : EReal) : Prop := ∃ r : ℝ, x = (r : EReal)

/-- A real number is real. -/
theorem IsReal.of_coe (r : ℝ) : IsReal (r : EReal) := ⟨r, rfl⟩

/-- A sum of two reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- A product of two reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The opposite of a real is real. -/
theorem IsReal.neg {x : EReal} (hx : IsReal x) : IsReal (-x) := by
  obtain ⟨a, rfl⟩ := hx
  exact ⟨-a, (EReal.coe_neg a).symm⟩

/-- A finite sum of reals, computed among the reals, is their sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- A finite sum times a nonnegative real is the sum of the products, whatever the summands. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-! ## A score in the two scalings -/

/-- Of real rows `q` and `k`: the score with `q` multiplied by `(log 2)⁻¹ · (√128)⁻¹` beforehand is a real `s`, and the
    plain score divided by `√128` is `log 2 · s`. -/
theorem score_scaled {q k : Fin 128 → EReal} (hq : ∀ e, IsReal (q e)) (hk : ∀ e, IsReal (k e)) :
    ∃ s : ℝ, (∑ e, q e * (((Real.log 2)⁻¹ * (Real.sqrt 128)⁻¹ : ℝ) : EReal) * k e) = (s : EReal)
      ∧ Ideal.div (∑ e, q e * k e) ((Real.sqrt 128 : ℝ) : EReal) = ((Real.log 2 * s : ℝ) : EReal) := by
  choose a ha using hq
  choose b hb using hk
  have hroot : Real.sqrt 128 ≠ 0 := (Real.sqrt_pos.mpr (by norm_num)).ne'
  have hlog : Real.log 2 ≠ 0 := (Real.log_pos (by norm_num)).ne'
  refine ⟨∑ e, a e * ((Real.log 2)⁻¹ * (Real.sqrt 128)⁻¹) * b e, ?_, ?_⟩
  · rw [coe_sum]
    refine Finset.sum_congr rfl fun e _ => ?_
    rw [ha, hb, ← EReal.coe_mul, ← EReal.coe_mul]
  · have hsum : (∑ e, q e * k e) = ((∑ e, a e * b e : ℝ) : EReal) := by
      rw [coe_sum]
      refine Finset.sum_congr rfl fun e _ => ?_
      rw [ha, hb, EReal.coe_mul]
    rw [hsum, Ideal.div_coe hroot, ← EReal.coe_mul, Finset.mul_sum, Finset.sum_mul]
    congr 1
    refine Finset.sum_congr rfl fun e _ => ?_
    field_simp

/-! ## A rotation frequency in the two spellings -/

/-- The kernel's frequency: two to the power `e · (−(1/64) · (log 10000 · (log 2)⁻¹))`, as a real. -/
def freq (e : ℕ) : ℝ := (2 : ℝ) ^ ((e : ℝ) * (-((1 / 64) * (Real.log 10000 * (Real.log 2)⁻¹))))

/-- The reference's frequency, one over 10000 to the power `(0 + 2 · e) / 128`, is the kernel's. -/
theorem freq_eq (e : ℕ) :
    Ideal.div 1 (Ideal.pow ((10000 : ℝ) : EReal) (Ideal.div (0 + ((2 : ℝ) : EReal) * ((e : ℝ) : EReal)) ((128 : ℝ) : EReal)))
      = (freq e : EReal) := by
  have hlog : Real.log 2 ≠ 0 := (Real.log_pos (by norm_num)).ne'
  rw [zero_add, Ideal.div_coe (by norm_num), ← EReal.coe_mul, ← EReal.coe_mul, Ideal.pow_coe_coe]
  have hpos : (0 : ℝ) < (10000 : ℝ) ^ (2 * (e : ℝ) * (1 / 128)) := Real.rpow_pos_of_pos (by norm_num) _
  change Ideal.div 1 (((10000 : ℝ) ^ (2 * (e : ℝ) * (1 / 128)) : ℝ) : EReal) = _
  rw [Ideal.div_coe hpos.ne', one_mul, EReal.coe_eq_coe_iff, freq,
    Real.rpow_def_of_pos (by norm_num : (0 : ℝ) < 2), Real.rpow_def_of_pos (by norm_num : (0 : ℝ) < 10000),
    one_div, ← Real.exp_neg]
  congr 1
  field_simp
  ring

/-! ## The causal softmax with and without its maximum -/

/-- The base-two weight of column `j` in row `R`: `2 ^ s j` up to the diagonal, zero beyond it. -/
def wgt {n : ℕ} (s : Fin n → EReal) (R j : Fin n) : EReal := if j.val ≤ R.val then Ideal.exp2 (s j) else 0

/-- The masked score of column `j` in row `R`: `w j` up to the diagonal, minus infinity beyond it. -/
def masked {n : ℕ} (w : Fin n → EReal) (R j : Fin n) : EReal := if j.val ≤ R.val then w j else ⊥

/-- The maximum of a row of masked real scores is real. -/
theorem max_masked_real {n : ℕ} (t : Fin n → ℝ) (R : Fin n) :
    IsReal (Finset.univ.fold max ⊥ (masked (fun j => ((t j : ℝ) : EReal)) R)) := by
  set w := masked (fun j => ((t j : ℝ) : EReal)) R with hw
  have htop : Finset.univ.fold max ⊥ w < ⊤ := by
    refine (Finset.fold_max_lt (b := (⊥ : EReal)) ⊤).mpr ⟨bot_lt_top, fun j _ => ?_⟩
    rw [hw, masked]
    split
    · exact EReal.coe_lt_top _
    · exact bot_lt_top
  have hbot : ⊥ < Finset.univ.fold max ⊥ w := by
    refine (Finset.lt_fold_max (b := (⊥ : EReal)) ⊥).mpr (Or.inr ⟨R, Finset.mem_univ R, ?_⟩)
    rw [hw, masked, if_pos le_rfl]
    exact EReal.bot_lt_coe _
  exact ⟨_, (EReal.coe_toReal htop.ne hbot.ne').symm⟩

/-- Weighted by base-two powers without a maximum and divided by their sum at the end, or weighted by base-e powers less
    the maximum and divided one by one, a causal row averages `v` to the same extended real, whatever `v` holds. -/
theorem softmax_eq {n : ℕ} (s : Fin n → ℝ) (R : Fin n) (v : Fin n → EReal) (w : Fin n → EReal)
    (hw : w = masked (fun j => ((Real.log 2 * s j : ℝ) : EReal)) R) :
    Ideal.div (∑ j, wgt (fun j => (s j : EReal)) R j * v j) (∑ j, wgt (fun j => (s j : EReal)) R j)
      = ∑ j, Ideal.div (Ideal.exp (w j - Finset.univ.fold max ⊥ w))
          (∑ i, Ideal.exp (w i - Finset.univ.fold max ⊥ w)) * v j := by
  obtain ⟨M, hM⟩ := max_masked_real (fun j => Real.log 2 * s j) R
  rw [← hw] at hM
  rw [hM]
  set P : Fin n → ℝ := fun j => if j.val ≤ R.val then Real.exp (Real.log 2 * s j) else 0 with hP
  have hP0 : ∀ j, 0 ≤ P j := fun j => by
    simp only [hP]; split
    · exact (Real.exp_pos _).le
    · exact le_rfl
  have hk : ∀ j, wgt (fun j => (s j : EReal)) R j = (P j : EReal) := fun j => by
    simp only [wgt, hP]
    split
    · rw [Ideal.exp2_coe]
      exact congrArg _ (Real.rpow_def_of_pos (by norm_num : (0 : ℝ) < 2) _)
    · rfl
  have hr : ∀ j, Ideal.exp (w j - (M : EReal)) = ((P j * Real.exp (-M) : ℝ) : EReal) := fun j => by
    rw [hw]
    simp only [masked, hP]
    split
    · rw [← EReal.coe_sub, Ideal.exp_coe, sub_eq_add_neg, Real.exp_add]
    · rw [EReal.bot_sub, Ideal.exp_bot, zero_mul, EReal.coe_zero]
  have hL : 0 < ∑ j, P j := Finset.sum_pos' (fun j _ => hP0 j) ⟨R, Finset.mem_univ R, by
    simp only [hP, if_pos (le_refl R.val)]; exact Real.exp_pos _⟩
  have hE : 0 < Real.exp (-M) := Real.exp_pos _
  simp only [hk, hr]
  rw [← coe_sum, ← coe_sum, ← Finset.sum_mul, Ideal.div_coe hL.ne', sum_mul_real _ _ (by positivity)]
  refine Finset.sum_congr rfl fun j _ => ?_
  rw [Ideal.div_coe (mul_pos hL hE).ne', ← EReal.coe_mul, mul_right_comm, ← EReal.coe_mul]
  congr 2
  field_simp

/-! ## A sum over a prefix -/

/-- A sum over the first `n` of `N` positions is the sum over all of them when the others are zero. -/
theorem sum_prefix {n N : ℕ} (h : n ≤ N) (f : Fin N → EReal) (hf : ∀ j : Fin N, n ≤ j.val → f j = 0) :
    ∑ j : Fin n, f (Fin.castLE h j) = ∑ j, f j := by
  refine Finset.sum_of_injOn (Fin.castLE h) (Fin.castLE_injective h).injOn (fun _ _ => Finset.mem_coe.mpr (Finset.mem_univ _))
    (fun j _ hj => hf j ?_) (fun _ _ => rfl)
  by_contra hlt
  exact hj ⟨⟨j.val, by omega⟩, Finset.mem_coe.mpr (Finset.mem_univ _), rfl⟩

/-! ## The attention row, in the two spellings -/

/-- The position of lane `d` of a head within its half. -/
def half (d : ℕ) : ℕ := if d < 64 then d else d - 64

/-- A row of inputs against a row of weights. -/
def proj (x w : Fin 2048 → EReal) : EReal := ∑ i, x i * w i

/-- The cosine by which lane `d` is rotated at position `p`. -/
def cosAt (p : EReal) (d : ℕ) : EReal := Ideal.cos (p * (freq (half d) : EReal))

/-- The sine by which lane `d` is rotated at position `p`. -/
def sinAt (p : EReal) (d : ℕ) : EReal := Ideal.sin (p * (freq (half d) : EReal))

/-- The rotation of a row `a` at position `p`: each lane times its cosine plus the lane across times its sine, the lane
    across taken with the opposite sign in the first half. -/
def rope (p : EReal) (a : Fin 128 → EReal) (d : Fin 128) : EReal :=
  a d * cosAt p d.val
    + (if h : d.val < 64 then -a ⟨64 + d.val, by omega⟩ else a ⟨d.val - 64, by omega⟩) * sinAt p d.val

/-- A row of inputs, projected by the rows of one head and rotated. -/
def rotated (p : EReal) (x : Fin 2048 → EReal) (w : Fin 128 → Fin 2048 → EReal) : Fin 128 → EReal :=
  rope p fun d => proj x (w d)

/-- A row rotated at a real position is real when it was. -/
theorem rope_real (p : ℝ) {a : Fin 128 → EReal} (ha : ∀ d, IsReal (a d)) (d : Fin 128) : IsReal (rope (p : EReal) a d) := by
  unfold rope cosAt sinAt
  rw [← EReal.coe_mul, Ideal.cos_coe, Ideal.sin_coe]
  refine .add (.mul (ha _) (.of_coe _)) (.mul ?_ (.of_coe _))
  split
  · exact (ha _).neg
  · exact ha _

/-- A projected and rotated row of reals is real. -/
theorem rotated_real (p : ℝ) {x : Fin 2048 → EReal} {w : Fin 128 → Fin 2048 → EReal} (hx : ∀ i, IsReal (x i))
    (hw : ∀ d i, IsReal (w d i)) (d : Fin 128) : IsReal (rotated (p : EReal) x w d) :=
  rope_real p (fun d => .sum _ fun i => (hx i).mul (hw d i)) d

/-- The scale the kernel puts on its queries. -/
def scale2 : EReal := (((Real.log 2)⁻¹ * (Real.sqrt 128)⁻¹ : ℝ) : EReal)

/-- Row `R`, lane `d` of causal attention as the kernel takes it: rows `q` scaled beforehand, rows `k`, values `v`. -/
def attend {n : ℕ} (q k : Fin n → Fin 128 → EReal) (v : Fin n → EReal) (R : Fin n) : EReal :=
  Ideal.div (∑ j, wgt (fun j => ∑ e, q R e * k j e) R j * v j) (∑ j, wgt (fun j => ∑ e, q R e * k j e) R j)

/-- The masked scores of row `R` as the reference takes them. -/
def scores {n : ℕ} (q k : Fin n → Fin 128 → EReal) (R : Fin n) : Fin n → EReal :=
  masked (fun j => Ideal.div (∑ e, q R e * k j e) ((Real.sqrt 128 : ℝ) : EReal)) R

/-- Causal attention as the reference takes it: the softmax of the row of scores `w`, against the values `v`. -/
def soft {n : ℕ} (w v : Fin n → EReal) : EReal :=
  ∑ j, Ideal.div (Ideal.exp (w j - Finset.univ.fold max ⊥ w)) (∑ i, Ideal.exp (w i - Finset.univ.fold max ⊥ w)) * v j

/-- Of real queries and keys, the kernel's attention is the reference's, whatever the values hold. -/
theorem attend_eq {n : ℕ} {q k : Fin n → Fin 128 → EReal} (hq : ∀ r e, IsReal (q r e)) (hk : ∀ r e, IsReal (k r e))
    (v : Fin n → EReal) (R : Fin n) : attend (fun r e => q r e * scale2) k v R = soft (scores q k R) v := by
  choose s hs ht using fun j => score_scaled (hq R) (hk j)
  unfold attend soft
  have hs' : (fun j => ∑ e, q R e * scale2 * k j e) = fun j => (s j : EReal) := funext hs
  have ht' : scores q k R = masked (fun j => ((Real.log 2 * s j : ℝ) : EReal)) R := by
    unfold scores
    exact congrArg (fun w => masked w R) (funext ht)
  rw [hs']
  exact softmax_eq s R v _ ht'

/-- Attention of row `o + a` over the first `n` rows is attention over all `N` of them when the row lies among the first
    `n`: the weights beyond are zero. -/
theorem attend_prefix {n N : ℕ} (h : n ≤ N) (q k : Fin N → Fin 128 → EReal) (v : Fin N → EReal) (R : Fin N)
    (hR : R.val < n) :
    Ideal.div
        (∑ j : Fin n, (if j.val ≤ R.val then Ideal.exp2 (∑ e, q R e * k (Fin.castLE h j) e) * v (Fin.castLE h j) else 0))
        (∑ j : Fin n, (if j.val ≤ R.val then Ideal.exp2 (∑ e, q R e * k (Fin.castLE h j) e) else 0))
      = attend q k v R := by
  have e₁ := sum_prefix h (fun j => if j.val ≤ R.val then Ideal.exp2 (∑ e, q R e * k j e) * v j else 0)
    fun j hj => if_neg (by omega)
  have e₂ := sum_prefix h (fun j => if j.val ≤ R.val then Ideal.exp2 (∑ e, q R e * k j e) else 0)
    fun j hj => if_neg (by omega)
  have hw : ∀ j, wgt (fun j => ∑ e, q R e * k j e) R j * v j
      = if j.val ≤ R.val then Ideal.exp2 (∑ e, q R e * k j e) * v j else 0 := fun j => by
    unfold wgt
    split
    · rfl
    · exact zero_mul _
  unfold attend
  simp only [hw]
  exact congrArg₂ Ideal.div e₁ e₂

/-! ## The causal mask in machine words -/

/-- For words below `2 ^ 31` the signed comparison of `o + a` with `x` selects by the order of the numbers. -/
theorem select_causal {α : Type} (o a x : ℕ) (ho : o + a < 2 ^ 31) (hx : x < 2 ^ 31) (u w : α) :
    Scalar.select (IntOp.cmpi .sge (IntOp.addi (BitVec.ofNat 32 o) (BitVec.ofNat 32 a)) (BitVec.ofNat 32 x)) u w
      = if x ≤ o + a then u else w := by
  have h : IntOp.cmpi .sge (IntOp.addi (BitVec.ofNat 32 o) (BitVec.ofNat 32 a)) (BitVec.ofNat 32 x)
      = BitVec.ofBool (decide (x ≤ o + a)) := by
    unfold IntOp.addi
    rw [← BitVec.ofNat_add]
    exact WordCmp.cmpi_sge_ofNat ho hx
  rw [h]
  by_cases hc : x ≤ o + a
  · simp [Scalar.select, hc]
  · simp [Scalar.select, hc]

end Cert.Attn

end
-- ==== Proof.Finite.lean ====
/- What the precondition says of the entries it speaks of. -/
module

public import proofs.«01_k».proof.Defs
public import proofs.«01_k».proof.Proof.Gen.Pre_finite
public import proofs.«01_k».proof.Proof.Softmax
public import Idealize.ShloMosaic.Lib.ReduceAll

@[expose] public section

noncomputable section

namespace Cert.Attn

open Idealize.ShloMosaic

/-- An extended real whose absolute value is below +∞ is real. -/
theorem real_of_abs_lt {x : EReal} (h : max x (-x) < ⊤) : IsReal x := by
  have h1 : x ≠ ⊤ := fun e => absurd h (by rw [e]; simp)
  have h2 : x ≠ ⊥ := fun e => absurd h (by rw [e]; simp)
  exact ⟨x.toReal, (EReal.coe_toReal h1 h2).symm⟩

/-- The word of +∞. -/
theorem word_top : Ideal.ofBits FTy.f32 0x7F800000#32 = (⊤ : EReal) := by simp [Ideal.ofBits, Ideal.ieee]

/-- The test "absolute value below +∞", true of an element, makes it real. -/
theorem real_of_test {s : Shape} (x : FVec Ideal s .f32) (z : FVec Ideal s .f32) (i : s.Idx)
    (hz : z i = Ideal.ofBits FTy.f32 0x7F800000#32) (h : cmpf .olt (Host.absf x) z i = 1#1) : IsReal (x i) := by
  refine real_of_abs_lt ?_
  have h' : Ideal.cmp .olt (max (x i : EReal) (-(x i : EReal))) (z i) = 1#1 := h
  rw [hz, word_top] at h'
  by_contra hc
  simp [Ideal.cmp, hc] at h'

/-- A conjunction of two bits that is 1 has both at 1. -/
theorem and_bits {a b : BitVec 1} (h : IntOp.andi a b = 1#1) : a = 1#1 ∧ b = 1#1 := by
  revert a b; decide

/-- The precondition: every entry of the inputs and of the weights of the queries and keys is real. -/
theorem finite_real (x : FVec Ideal Cert.Pre_finite.S1x2048x2048 .f32) (p : IVec Cert.Pre_finite.S1x2048 32)
    (wq wk wv wo : FVec Ideal Cert.Pre_finite.S2048x2048 .f32)
    (h : Cert.Pre_finite.fn (F := Ideal) x p wq wk wv wo = fun _ => 1#1) :
    (∀ i, IsReal (x i)) ∧ (∀ i, IsReal (wq i)) ∧ (∀ i, IsReal (wk i)) := by
  have h0 := congrFun h (Shape.Idx.first Cert.Pre_finite.Gen.h_S_)
  obtain ⟨h1, h2⟩ := and_bits h0
  obtain ⟨h3, h4⟩ := and_bits h1
  haveI : Subsingleton Cert.Pre_finite.S_.Idx := ⟨fun a b => funext fun k => k.elim0⟩
  exact ⟨fun i => real_of_test x _ i rfl (Host.reduce_andi_all _ _ _ _ _ h3 i),
    fun i => real_of_test wq _ i rfl (Host.reduce_andi_all _ _ _ _ _ h4 i),
    fun i => real_of_test wk _ i rfl (Host.reduce_andi_all _ _ _ _ _ h2 i)⟩

end Cert.Attn

end
-- ==== Proof.Tiles.lean ====
/- The eight tiles one grid step stores: entry (a, d) of each is the causal attention of the row it stands for, from the
   step's queries, keys and values. -/
module

public import proofs.«01_k».proof.Proof.Softmax
public import proofs.«01_k».proof.Proof.Gen.KernelIdeal.Frame
public import Idealize.ShloMosaic.Lib.Pointwise
public import Idealize.ShloMosaic.PureOps.Ideal.Laws

@[expose] public section

noncomputable section

namespace Cert.Attn

open Idealize.ShloMosaic Idealize.SL.Sem Cert.KernelIdeal Cert.KernelIdeal.Gen
open scoped BigOperators

/-- A tile's entry as the program spells it, the columns cut to the first `n` and masked in words, is attention of row
    `o + a` over all rows. -/
theorem tile_attend {n : ℕ} (h : n ≤ 2048) (o a : ℕ) (ho : o + a < n) (Q K : Fin 2048 → Fin 128 → EReal)
    (V : Fin 2048 → EReal) (R : Fin 2048) (hR : R.val = o + a) {p w : Fin n → EReal}
    (hp : ∀ x, p x = Ideal.exp2 (∑ e, Q R e * K (Fin.castLE h x) e) * V (Fin.castLE h x))
    (hw : ∀ x, w x = Ideal.exp2 (∑ e, Q R e * K (Fin.castLE h x) e)) :
    Ideal.div
        (∑ x : Fin n, Scalar.select
          (IntOp.cmpi .sge (IntOp.addi (BitVec.ofNat 32 o) (BitVec.ofNat 32 a)) (BitVec.ofNat 32 x.val)) (p x) 0)
        (∑ x : Fin n, Scalar.select
          (IntOp.cmpi .sge (IntOp.addi (BitVec.ofNat 32 o) (BitVec.ofNat 32 a)) (BitVec.ofNat 32 x.val)) (w x) 0)
      = attend Q K V R := by
  refine Eq.trans ?_ (attend_prefix h Q K V R (hR ▸ ho))
  refine congrArg₂ Ideal.div (Finset.sum_congr rfl fun x _ => ?_) (Finset.sum_congr rfl fun x _ => ?_)
  · rw [hp, hR]; exact select_causal o a x.val (by omega) (by omega) _ _
  · rw [hw, hR]; exact select_causal o a x.val (by omega) (by omega) _ _

/-- The first head's first tile: rows from 0. -/
theorem tile0 (v15 : FVec Ideal S2048x128 .f32) (v26 : FVec Ideal S2048x256 .f32) (Q : FVec Ideal S2048x128 .bf16) (v40 v41 : FVec Ideal S2048x64 .f32)
    (v42 : FVec Ideal S2048x128 .f32) (v43 : FVec Ideal S2048x64 .f32) (a : Fin 512) (d : Fin 128) :
    k0_pay17 v15 v26 Q v40 v41 v42 v43 (ix2 a d)
      = attend (fun r e => (Q) (ix2 r e)) (fun r e => (k0_pay15 v15 v40 v41 v42 v43) (ix2 r e)) (fun r => (k0_pay16 v26) (ix2 r d))
          ⟨a.val, by omega⟩ := by
  pointwise [k0_pay17]
  generalize k0_pay15 v15 v40 v41 v42 v43 = K
  generalize k0_pay16 v26 = V
  exact tile_attend (n := 512) (by decide) 0 a.val (by omega) (fun r e => Q (ix2 r e)) (fun r e => K (ix2 r e))
    (fun r => V (ix2 r d)) _ (by simp) (fun x => rfl) (fun x => rfl)

/-- The first head's second tile: rows from 512. -/
theorem tile1 (v15 : FVec Ideal S2048x128 .f32) (v26 : FVec Ideal S2048x256 .f32) (Q : FVec Ideal S2048x128 .bf16) (v40 v41 : FVec Ideal S2048x64 .f32)
    (v42 : FVec Ideal S2048x128 .f32) (v43 : FVec Ideal S2048x64 .f32) (a : Fin 512) (d : Fin 128) :
    k0_pay18 v15 v26 Q v40 v41 v42 v43 (ix2 a d)
      = attend (fun r e => (Q) (ix2 r e)) (fun r e => (k0_pay15 v15 v40 v41 v42 v43) (ix2 r e)) (fun r => (k0_pay16 v26) (ix2 r d))
          ⟨512 + a.val, by omega⟩ := by
  pointwise [k0_pay18]
  generalize k0_pay15 v15 v40 v41 v42 v43 = K
  generalize k0_pay16 v26 = V
  exact tile_attend (n := 1024) (by decide) 512 a.val (by omega) (fun r e => Q (ix2 r e)) (fun r e => K (ix2 r e))
    (fun r => V (ix2 r d)) _ rfl (fun x => rfl) (fun x => rfl)

/-- The first head's third tile: rows from 1024. -/
theorem tile2 (Q K V : FVec Ideal S2048x128 .bf16) (a : Fin 512) (d : Fin 128) :
    k0_pay19 Q K V (ix2 a d)
      = attend (fun r e => (Q) (ix2 r e)) (fun r e => (K) (ix2 r e)) (fun r => (V) (ix2 r d))
          ⟨1024 + a.val, by omega⟩ := by
  pointwise [k0_pay19]
  exact tile_attend (n := 1536) (by decide) 1024 a.val (by omega) (fun r e => Q (ix2 r e)) (fun r e => K (ix2 r e))
    (fun r => V (ix2 r d)) _ rfl (fun x => rfl) (fun x => rfl)

/-- The first head's last tile: rows from 1536. -/
theorem tile3 (Q K V : FVec Ideal S2048x128 .bf16) (a : Fin 512) (d : Fin 128) :
    k0_pay20 Q K V (ix2 a d)
      = attend (fun r e => (Q) (ix2 r e)) (fun r e => (K) (ix2 r e)) (fun r => (V) (ix2 r d))
          ⟨1536 + a.val, by omega⟩ := by
  pointwise [k0_pay20]
  exact tile_attend (n := 2048) (by decide) 1536 a.val (by omega) (fun r e => Q (ix2 r e)) (fun r e => K (ix2 r e))
    (fun r => V (ix2 r d)) _ rfl (fun x => rfl) (fun x => rfl)

/-- The second head's first tile: rows from 0. -/
theorem tile4 (v14 v15 : FVec Ideal S2048x128 .f32) (v25 v26 : FVec Ideal S2048x256 .f32) (v129 : FVec Ideal S2048x128 .f32)
    (v130 v131 : FVec Ideal S2048x64 .f32) (a : Fin 512) (d : Fin 128) :
    k0_pay27 v14 v15 v25 v26 v129 v130 v131 (ix2 a d)
      = attend (fun r e => (k0_pay24 v14 v15 v129 v130 v131) (ix2 r e)) (fun r e => (k0_pay25 v14 v15 v25) (ix2 r e)) (fun r => (k0_pay26 v26) (ix2 r d))
          ⟨a.val, by omega⟩ := by
  pointwise [k0_pay27]
  generalize k0_pay24 v14 v15 v129 v130 v131 = Q
  generalize k0_pay25 v14 v15 v25 = K
  generalize k0_pay26 v26 = V
  exact tile_attend (n := 512) (by decide) 0 a.val (by omega) (fun r e => Q (ix2 r e)) (fun r e => K (ix2 r e))
    (fun r => V (ix2 r d)) _ (by simp) (fun x => rfl) (fun x => rfl)

/-- The second head's second tile: rows from 512. -/
theorem tile5 (V : FVec Ideal S2048x128 .bf16) (v14 v15 : FVec Ideal S2048x128 .f32) (v25 : FVec Ideal S2048x256 .f32) (v129 : FVec Ideal S2048x128 .f32)
    (v130 v131 : FVec Ideal S2048x64 .f32) (a : Fin 512) (d : Fin 128) :
    k0_pay30 V (k0_pay28 v14 v15 v25 v129 v130 v131) k0_pay29 (ix2 a d)
      = attend (fun r e => (k0_pay24 v14 v15 v129 v130 v131) (ix2 r e)) (fun r e => (k0_pay25 v14 v15 v25) (ix2 r e)) (fun r => (V) (ix2 r d))
          ⟨512 + a.val, by omega⟩ := by
  pointwise [k0_pay30, k0_pay28, k0_pay29]
  generalize k0_pay24 v14 v15 v129 v130 v131 = Q
  generalize k0_pay25 v14 v15 v25 = K
  exact tile_attend (n := 1024) (by decide) 512 a.val (by omega) (fun r e => Q (ix2 r e)) (fun r e => K (ix2 r e))
    (fun r => V (ix2 r d)) _ rfl (fun x => rfl) (fun x => rfl)

/-- The second head's third tile: rows from 1024. -/
theorem tile6 (Q K V : FVec Ideal S2048x128 .bf16) (a : Fin 512) (d : Fin 128) :
    k0_pay31 Q K V (ix2 a d)
      = attend (fun r e => (Q) (ix2 r e)) (fun r e => (K) (ix2 r e)) (fun r => (V) (ix2 r d))
          ⟨1024 + a.val, by omega⟩ := by
  pointwise [k0_pay31]
  exact tile_attend (n := 1536) (by decide) 1024 a.val (by omega) (fun r e => Q (ix2 r e)) (fun r e => K (ix2 r e))
    (fun r => V (ix2 r d)) _ rfl (fun x => rfl) (fun x => rfl)

/-- The second head's last tile: rows from 1536. -/
theorem tile7 (Q K V : FVec Ideal S2048x128 .bf16) (a : Fin 512) (d : Fin 128) :
    k0_pay1 V k0_pay32 (k0_pay33 Q K) (k0_pay34 (F := Ideal)) (ix2 a d)
      = attend (fun r e => (Q) (ix2 r e)) (fun r e => (K) (ix2 r e)) (fun r => (V) (ix2 r d))
          ⟨1536 + a.val, by omega⟩ := by
  pointwise [k0_pay1, k0_pay32, k0_pay33, k0_pay34]
  exact tile_attend (n := 2048) (by decide) 1536 a.val (by omega) (fun r e => Q (ix2 r e)) (fun r e => K (ix2 r e))
    (fun r => V (ix2 r d)) _ rfl (fun x => rfl) (fun x => rfl)

end Cert.Attn

end
-- ==== Proof.Block.lean ====
/- One grid step of the attention kernel: its tables, queries, keys and values read at an index, and the block it stores
   as causal attention of the two heads the step works on. -/
module

public import proofs.«01_k».proof.Proof.Tiles
public import Idealize.ShloMosaic.Lib.Pointwise
public import Idealize.ShloMosaic.Lib.Pipeline.ValueKit
public import Idealize.ShloMosaic.PureOps.Ideal.Laws

@[expose] public section

noncomputable section

namespace Cert.Attn

open Idealize.ShloMosaic Idealize.SL.Sem Cert.KernelIdeal Cert.KernelIdeal.Gen
open scoped BigOperators

/-- Zero less `x` is the opposite of `x`. -/
theorem zero_less (x : EReal) : 0 - x = -x := by rw [sub_eq_add_neg, zero_add]

/-- The kernel's frequency of lane `e`. -/
theorem freq_word (e : ℕ) (he : e < 64) :
    FloatOps.exp2 (F := Ideal) (φ := .f32) (FloatOps.sitofp .f32 (BitVec.ofNat 32 e) * Named.named κ "rope" 0xBE549A78#32)
      = ((freq e : ℝ) : EReal) := by
  have hn : (Named.named κ "rope" 0xBE549A78#32 : Ideal .f32)
      = ((-((1 / 64) * (Real.log 10000 * (Real.log 2)⁻¹)) : ℝ) : EReal) := IdealRules.named_const.ideal_named_scalar _ _ _ _ rfl
  have hi : (FloatOps.sitofp (F := Ideal) .f32 (BitVec.ofNat 32 e)) = (((e : ℝ)) : EReal) := by
    change (((BitVec.ofNat 32 e).toInt : ℝ) : EReal) = _
    rw [WordCmp.toInt_ofNat_of_lt (show e < 2 ^ (32 - 1) by omega)]
    rfl
  rw [hn, hi]
  change Ideal.exp2 _ = _
  rw [← EReal.coe_mul, Ideal.exp2_coe]
  rfl

/-- The scale the kernel puts on its queries, as its constant names it. -/
theorem scale2_word : (Named.named κ "scale2" 0x3E0293EE#32 : Ideal .f32) = scale2 :=
  IdealRules.named_const.ideal_named_scalar _ _ _ _ rfl

section Rows

variable (x0 : Vec Ideal S2048x2048 .f32) (x1 x2 x3 : Vec Ideal S256x2048 .f32) (x4 : Vec Ideal S2048x1 .f32)

/-- The cosine table. -/
theorem cos_table (r : Fin 2048) (d : Fin 128) :
    k0_pay3 (View.ld x4 r0_1) (ix2 r d) = cosAt (x4 (ix2 r 0)) d := by
  pointwise [k0_pay3, k0_pay2]
  unfold cosAt half
  by_cases h : d.val < 64
  · simp only [dif_pos h, if_pos h]; rw [freq_word _ h]
  · simp only [dif_neg h, if_neg h]; rw [freq_word _ (by omega)]

/-- The sine table. -/
theorem sin_table (r : Fin 2048) (d : Fin 128) :
    k0_pay4 (View.ld x4 r0_1) (ix2 r d) = sinAt (x4 (ix2 r 0)) d := by
  pointwise [k0_pay4, k0_pay2]
  unfold sinAt half
  by_cases h : d.val < 64
  · simp only [dif_pos h, if_pos h]; rw [freq_word _ h]
  · simp only [dif_neg h, if_neg h]; rw [freq_word _ (by omega)]

/-- The columns of the product that project onto the queries' rows. -/
theorem proj_q (r : Fin 2048) (d : Fin 256) :
    k0_pay6 (View.ld x0 r0_0) (View.ld x1 r0_2) (View.ld x2 r0_2) (View.ld x3 r0_2) (ix2 r d)
      = proj (fun i => x0 (ix2 r i)) (fun i => x1 (ix2 d i)) := by
  pointwise [k0_pay6, k0_pay5]
  rfl

/-- The columns of the product that project onto the keys' rows. -/
theorem proj_k (r : Fin 2048) (d : Fin 256) :
    k0_pay7 (View.ld x0 r0_0) (View.ld x1 r0_2) (View.ld x2 r0_2) (View.ld x3 r0_2) (ix2 r d)
      = proj (fun i => x0 (ix2 r i)) (fun i => x2 (ix2 d i)) := by
  pointwise [k0_pay7, k0_pay5]
  rfl

/-- The columns of the product that project onto the values' rows. -/
theorem proj_v (r : Fin 2048) (d : Fin 256) :
    k0_pay8 (View.ld x0 r0_0) (View.ld x1 r0_2) (View.ld x2 r0_2) (View.ld x3 r0_2) (ix2 r d)
      = proj (fun i => x0 (ix2 r i)) (fun i => x3 (ix2 d i)) := by
  pointwise [k0_pay8, k0_pay5]
  simp only [dif_neg (show ¬512 + d.val < 256 by omega), dif_neg (show ¬512 + d.val - 256 < 256 by omega),
    show 512 + d.val - 256 - 256 = d.val by omega]
  rfl

/-- The first head's queries: rotated and scaled. -/
theorem query0 (r : Fin 2048) (d : Fin 128) :
    k0_pay40 x0 x1 x2 x3 x4 (ix2 r d)
      = rotated (x4 (ix2 r 0)) (fun i => x0 (ix2 r i)) (fun d i => x1 (ix2 ⟨d.val, by omega⟩ i)) d * scale2 := by
  pointwise [k0_pay40, k0_pay9]
  simp only [proj_q, cos_table, sin_table, zero_less, scale2_word]
  rfl

/-- The first head's keys: rotated. -/
theorem key0 (r : Fin 2048) (d : Fin 128) :
    k0_pay45 x0 x1 x2 x3 x4 (ix2 r d)
      = rotated (x4 (ix2 r 0)) (fun i => x0 (ix2 r i)) (fun d i => x2 (ix2 ⟨d.val, by omega⟩ i)) d := by
  pointwise [k0_pay45, k0_pay15, k0_pay41, k0_pay42, k0_pay43, k0_pay44, k0_pay11, k0_pay12, k0_pay13, k0_pay14, k0_pay10, k0_pay36]
  simp only [proj_k, cos_table, sin_table, zero_less]
  rfl

/-- The first head's values. -/
theorem value0 (r : Fin 2048) (d : Fin 128) :
    k0_pay46 x0 x1 x2 x3 x4 (ix2 r d)
      = proj (fun i => x0 (ix2 r i)) (fun i => x3 (ix2 ⟨d.val, by omega⟩ i)) := by
  pointwise [k0_pay46, k0_pay16, k0_pay39]
  simp only [proj_v]

/-- The second head's queries: rotated and scaled. -/
theorem query1 (r : Fin 2048) (d : Fin 128) :
    k0_pay50 x0 x1 x2 x3 x4 (ix2 r d)
      = rotated (x4 (ix2 r 0)) (fun i => x0 (ix2 r i)) (fun d i => x1 (ix2 ⟨128 + d.val, by omega⟩ i)) d * scale2 := by
  pointwise [k0_pay50, k0_pay24, k0_pay47, k0_pay48, k0_pay49, k0_pay21, k0_pay22, k0_pay23, k0_pay37, k0_pay35, k0_pay36]
  simp only [proj_q, cos_table, sin_table, zero_less, scale2_word]
  rfl

/-- The second head's keys: rotated. -/
theorem key1 (r : Fin 2048) (d : Fin 128) :
    k0_pay51 x0 x1 x2 x3 x4 (ix2 r d)
      = rotated (x4 (ix2 r 0)) (fun i => x0 (ix2 r i)) (fun d i => x2 (ix2 ⟨128 + d.val, by omega⟩ i)) d := by
  pointwise [k0_pay51, k0_pay25, k0_pay38, k0_pay35, k0_pay36]
  simp only [proj_k, cos_table, sin_table, zero_less]
  rfl

/-- The second head's values. -/
theorem value1 (r : Fin 2048) (d : Fin 128) :
    k0_pay52 x0 x1 x2 x3 x4 (ix2 r d)
      = proj (fun i => x0 (ix2 r i)) (fun i => x3 (ix2 ⟨128 + d.val, by omega⟩ i)) := by
  pointwise [k0_pay52, k0_pay26, k0_pay39]
  simp only [proj_v]

/-- Attention of row `R`, lane `d` of one head, from the inputs and the head's rows of weights, as the kernel takes it. -/
def headK (x : Fin 2048 → Fin 2048 → EReal) (p : Fin 2048 → EReal) (wq wk wv : Fin 128 → Fin 2048 → EReal)
    (R : Fin 2048) (d : Fin 128) : EReal :=
  attend (fun r e => rotated (p r) (x r) wq e * scale2) (fun r e => rotated (p r) (x r) wk e)
    (fun r => proj (x r) (wv d)) R

/-- Column `C` of the block a grid step stores, as the step's inputs give it: lane `C % 128` of head `C / 128` of its two. -/
def blockK (R : Fin 2048) (C : Fin 256) : EReal :=
  headK (fun r i => x0 (ix2 r i)) (fun r => x4 (ix2 r 0))
    (fun e i => x1 (ix2 ⟨128 * (C.val / 128) + e.val, by omega⟩ i))
    (fun e i => x2 (ix2 ⟨128 * (C.val / 128) + e.val, by omega⟩ i))
    (fun e i => x3 (ix2 ⟨128 * (C.val / 128) + e.val, by omega⟩ i)) R ⟨C.val % 128, by omega⟩

/-- Attention over the first head's queries, keys and values fills the block's first 128 columns. -/
theorem first_head (R : Fin 2048) (C : Fin 256) (d : Fin 128) (hC : C.val = d.val) :
    attend (fun r e => k0_pay40 x0 x1 x2 x3 x4 (ix2 r e)) (fun r e => k0_pay45 x0 x1 x2 x3 x4 (ix2 r e))
      (fun r => k0_pay46 x0 x1 x2 x3 x4 (ix2 r d)) R = blockK x0 x1 x2 x3 x4 R C := by
  have he : ∀ e : Fin 128, (⟨128 * (C.val / 128) + e.val, by omega⟩ : Fin 256) = ⟨e.val, by omega⟩ :=
    fun e => Fin.ext (by simp only; omega)
  have hd : (⟨C.val % 128, by omega⟩ : Fin 128) = d := Fin.ext (by simp only; omega)
  unfold blockK
  simp only [query0, key0, value0, he, hd]
  rfl

/-- Attention over the second head's queries, keys and values fills the block's last 128 columns. -/
theorem second_head (R : Fin 2048) (C : Fin 256) (d : Fin 128) (hC : C.val = 128 + d.val) :
    attend (fun r e => k0_pay50 x0 x1 x2 x3 x4 (ix2 r e)) (fun r e => k0_pay51 x0 x1 x2 x3 x4 (ix2 r e))
      (fun r => k0_pay52 x0 x1 x2 x3 x4 (ix2 r d)) R = blockK x0 x1 x2 x3 x4 R C := by
  have he : ∀ e : Fin 128, (⟨128 * (C.val / 128) + e.val, by omega⟩ : Fin 256) = ⟨128 + e.val, by omega⟩ :=
    fun e => Fin.ext (by simp only; omega)
  have hd : (⟨C.val % 128, by omega⟩ : Fin 128) = d := Fin.ext (by simp only; omega)
  unfold blockK
  simp only [query1, key1, value1, he, hd]
  rfl

/-- Every index of a tile is a pair. -/
theorem tile_index (x : S512x128.Idx) : ∃ (a : Fin 512) (d : Fin 128), x = ix2 a d :=
  ⟨x 0, x 1, by funext i; fin_cases i <;> rfl⟩

/-- The block a grid step stores, entry by entry. -/
theorem block_apply (R : Fin 2048) (C : Fin 256) :
    out0_5 x0 x1 x2 x3 x4 (ix2 R C) = blockK x0 x1 x2 x3 x4 R C := by
  unfold out0_5
  canon_tiles x h
  all_goals obtain ⟨a, d, rfl⟩ := tile_index x
  · obtain rfl : R = ⟨1536 + a.val, (Nat.add_lt_add_left a.isLt 1536).trans_le (by decide)⟩ := Fin.ext h0
    exact (tile7 _ _ _ a d).trans (second_head x0 x1 x2 x3 x4 _ C d h1)
  · obtain rfl : R = ⟨1024 + a.val, (Nat.add_lt_add_left a.isLt 1024).trans_le (by decide)⟩ := Fin.ext h0
    exact (tile6 _ _ _ a d).trans (second_head x0 x1 x2 x3 x4 _ C d h1)
  · obtain rfl : R = ⟨512 + a.val, (Nat.add_lt_add_left a.isLt 512).trans_le (by decide)⟩ := Fin.ext h0
    exact (tile5 _ _ _ _ _ _ _ a d).trans (second_head x0 x1 x2 x3 x4 _ C d h1)
  · obtain rfl : R = ⟨a.val, a.isLt.trans_le (by decide)⟩ := Fin.ext h0
    exact (tile4 _ _ _ _ _ _ _ a d).trans (second_head x0 x1 x2 x3 x4 _ C d h1)
  · obtain rfl : R = ⟨1536 + a.val, (Nat.add_lt_add_left a.isLt 1536).trans_le (by decide)⟩ := Fin.ext h0
    exact (tile3 _ _ _ a d).trans (first_head x0 x1 x2 x3 x4 _ C d h1)
  · obtain rfl : R = ⟨1024 + a.val, (Nat.add_lt_add_left a.isLt 1024).trans_le (by decide)⟩ := Fin.ext h0
    exact (tile2 _ _ _ a d).trans (first_head x0 x1 x2 x3 x4 _ C d h1)
  · obtain rfl : R = ⟨512 + a.val, (Nat.add_lt_add_left a.isLt 512).trans_le (by decide)⟩ := Fin.ext h0
    exact (tile1 _ _ _ _ _ _ _ a d).trans (first_head x0 x1 x2 x3 x4 _ C d h1)
  · obtain rfl : R = ⟨a.val, a.isLt.trans_le (by decide)⟩ := Fin.ext h0
    exact (tile0 _ _ _ _ _ _ _ a d).trans (first_head x0 x1 x2 x3 x4 _ C d h1)

end Rows

end Cert.Attn

end
-- ==== Proof.Array.lean ====
/- The kernel's arrays after its two launches: the context array holds causal attention of all sixteen heads, and the
   result its product with the output weights. -/
module

public import proofs.«01_k».proof.Proof.Block
public import Idealize.ShloMosaic.Lib.Claim

@[expose] public section

noncomputable section

namespace Cert.Attn

open Idealize.ShloMosaic Idealize.SL.Sem Cert.KernelIdeal Cert.KernelIdeal.Gen Idealize.ShloMosaic.Pipeline
open scoped BigOperators

/-- Entry (R, C) of the context: lane `C % 128` of head `C / 128`, over the inputs `X`, positions `P` and the three
    projections' weights. -/
def ctxK (X : Vec Ideal S2048x2048 .f32) (P : Vec Ideal S2048x1 .f32) (Wq Wk Wv : Vec Ideal S2048x2048 .f32)
    (R C : Fin 2048) : EReal :=
  headK (fun r i => X (ix2 r i)) (fun r => P (ix2 r 0))
    (fun e i => Wq (ix2 ⟨128 * (C.val / 128) + e.val, by omega⟩ i))
    (fun e i => Wk (ix2 ⟨128 * (C.val / 128) + e.val, by omega⟩ i))
    (fun e i => Wv (ix2 ⟨128 * (C.val / 128) + e.val, by omega⟩ i)) R ⟨C.val % 128, by omega⟩

/-- Where the first launch's windows stand at each of its eight grid points. -/
theorem idx0 : ∀ t : Fin cfg0.N, win0_0.index t = ![0, 0] ∧ win0_1.index t = ![t.val, 0] ∧ win0_2.index t = ![t.val, 0]
    ∧ win0_3.index t = ![t.val, 0] ∧ win0_4.index t = ![0, 0] ∧ win0_5.index t = ![0, t.val] :=
  (by decide +kernel : ∀ t : Fin grid0.N, _)

section Region0

variable (V : (c : Dev nD) → (b : Ref sig .tc) → Buf (Elt Ideal) (Thread.loc (c.tc : Thread nD τ) b)) (c : Dev nD)

/-- A row of one of the eight blocks of 256 is one of 2048 rows. -/
theorem row_lt (t : Fin cfg0.N) (a : Fin 256) : t.val * 256 + a.val < 2048 := by
  have ht : t.val < 8 := t.isLt
  omega

/-- Every point reads the whole array of inputs. -/
theorem iblk0_0 (t : Fin cfg0.N) (a b : Fin 2048) : (iblk0 V c 0 t : Vec Ideal S2048x2048 .f32) (ix2 a b)
    = (V c main_v0 : Vec Ideal S2048x2048 .f32) (ix2 a b) := by
  blk_ext [iblk0, idx0 t]

/-- Rows of the queries' weights at point `t`. -/
theorem iblk0_1 (t : Fin cfg0.N) (a : Fin 256) (b : Fin 2048) : (iblk0 V c 1 t : Vec Ideal S256x2048 .f32) (ix2 a b)
    = (V c main_arg2 : Vec Ideal S2048x2048 .f32) (ix2 ⟨t.val * 256 + a.val, row_lt t a⟩ b) := by
  blk_ext [iblk0, idx0 t]

/-- Rows of the keys' weights at point `t`. -/
theorem iblk0_2 (t : Fin cfg0.N) (a : Fin 256) (b : Fin 2048) : (iblk0 V c 2 t : Vec Ideal S256x2048 .f32) (ix2 a b)
    = (V c main_arg3 : Vec Ideal S2048x2048 .f32) (ix2 ⟨t.val * 256 + a.val, row_lt t a⟩ b) := by
  blk_ext [iblk0, idx0 t]

/-- Rows of the values' weights at point `t`. -/
theorem iblk0_3 (t : Fin cfg0.N) (a : Fin 256) (b : Fin 2048) : (iblk0 V c 3 t : Vec Ideal S256x2048 .f32) (ix2 a b)
    = (V c main_arg4 : Vec Ideal S2048x2048 .f32) (ix2 ⟨t.val * 256 + a.val, row_lt t a⟩ b) := by
  blk_ext [iblk0, idx0 t]

/-- Every point reads the whole column of positions. -/
theorem iblk0_4 (t : Fin cfg0.N) (a : Fin 2048) (b : Fin 1) : (iblk0 V c 4 t : Vec Ideal S2048x1 .f32) (ix2 a b)
    = (V c main_v2 : Vec Ideal S2048x1 .f32) (ix2 a b) := by
  blk_ext [iblk0, idx0 t]

/-- The block point `t` stores is the context's columns from `256 * t`. -/
theorem block_ctx (t : Fin cfg0.N) (a : Fin 2048) (b : Fin 256) :
    out0_5 (iblk0 V c 0 t) (iblk0 V c 1 t) (iblk0 V c 2 t) (iblk0 V c 3 t) (iblk0 V c 4 t) (ix2 a b)
      = ctxK (V c main_v0) (V c main_v2) (V c main_arg2) (V c main_arg3) (V c main_arg4) a
          ⟨t.val * 256 + b.val, row_lt t b⟩ := by
  refine (block_apply _ _ _ _ _ a b).trans ?_
  have ht : t.val < 8 := t.isLt
  have hr : ∀ e : Fin 128, (⟨t.val * 256 + (128 * (b.val / 128) + e.val), by omega⟩ : Fin 2048)
      = ⟨128 * ((t.val * 256 + b.val) / 128) + e.val, by omega⟩ := fun e => Fin.ext (by simp only; omega)
  have hl : (⟨b.val % 128, by omega⟩ : Fin 128) = ⟨(t.val * 256 + b.val) % 128, by omega⟩ := Fin.ext (by simp only; omega)
  unfold blockK ctxK
  simp only [iblk0_0, iblk0_1, iblk0_2, iblk0_3, iblk0_4, hr, hl]

/-- The context array after the first launch. -/
theorem ctx_array : (dat0 V c).arrAt 5 cfg0.N
    = fun i : S2048x2048.Idx => ctxK (V c main_v0) (V c main_v2) (V c main_arg2) (V c main_arg3) (V c main_arg4) (i 0) (i 1) := by
  refine (dat0 V c).arrAt_eq_of_covers 5 _ (by decide +kernel) fun t hf y => ?_
  blk_simp
  rw [after0_5]
  obtain ⟨a, b, rfl⟩ : ∃ (a : Fin 2048) (b : Fin 256), y = ix2 a b := ⟨y 0, y 1, by funext i; fin_cases i <;> rfl⟩
  have e0 : (win0_5.blk t).view.emb (ix2 a b) 0 = a := Fin.ext (by blk_simp [idx0 t])
  have e1 : (win0_5.blk t).view.emb (ix2 a b) 1 = ⟨t.val * 256 + b.val, row_lt t b⟩ := Fin.ext (by blk_simp [idx0 t])
  rw [e0, e1]
  exact block_ctx V c t a b

end Region0

section Region1

variable (V : (c : Dev nD) → (b : Ref sig .tc) → Buf (Elt Ideal) (Thread.loc (c.tc : Thread nD τ) b)) (c : Dev nD)

/-- Entry (a, b) of the product of the context with the transposed output weights. -/
def outK (C : Vec Ideal S2048x2048 .bf16) (W : Vec Ideal S2048x2048 .f32) (a b : Fin 2048) : EReal :=
  proj (fun j => C (ix2 a j)) (fun j => W (ix2 b j))

/-- What the second launch stores, entry by entry. -/
theorem product_apply (C : Vec Ideal S2048x2048 .bf16) (W : Vec Ideal S2048x2048 .f32) (a b : Fin 2048) :
    k1_pay1 W C (ix2 a b) = outK C W a b := by
  pointwise [k1_pay1]
  rfl

/-- Where the second launch's windows stand at its one grid point. -/
theorem idx1 : ∀ t : Fin cfg1.N, win1_0.index t = ![0, 0] ∧ win1_1.index t = ![0, 0] ∧ win1_2.index t = ![0, 0] :=
  (by decide +kernel : ∀ t : Fin grid1.N, _)

/-- The launch reads the whole context. -/
theorem iblk1_0 (t : Fin cfg1.N) : (iblk1 V c 0 t : Vec Ideal S2048x2048 .bf16) = V c main_v3 := by
  blk_ext! [iblk1, idx1 t]

/-- The launch reads the whole array of output weights. -/
theorem iblk1_1 (t : Fin cfg1.N) : (iblk1 V c 1 t : Vec Ideal S2048x2048 .f32) = V c main_arg5 := by
  blk_ext! [iblk1, idx1 t]

/-- The result array after the second launch. -/
theorem out_array : (dat1 V c).arrAt 2 cfg1.N
    = fun i : S2048x2048.Idx => outK (V c main_v3) (V c main_arg5) (i 0) (i 1) := by
  refine (dat1 V c).arrAt_eq_of_after_last 2 t1_0 (by decide +kernel) _ fun j => ?_
  blk_simp
  rw [after1_2]
  frame_out
  obtain ⟨a, b, rfl⟩ : ∃ (a : Fin 2048) (b : Fin 2048), j = ix2 a b := ⟨j 0, j 1, by funext i; fin_cases i <;> rfl⟩
  refine (product_apply _ _ a b).trans ?_
  rw [iblk1_0, iblk1_1]
  rfl

end Region1

section Host

/-- Dropping the batch axis of extent one. -/
theorem drop_batch (X : Vec Ideal S1x2048x2048 .f32) (h : S1x2048x2048.ShapeCasts S2048x2048) (a b : Fin 2048) :
    shapeCast S2048x2048 X h (ix2 a b) = X (ix3 0 a b) := by
  pointwise

/-- Adding a batch axis of extent one. -/
theorem add_batch (X : Vec Ideal S2048x2048 .f32) (h : S2048x2048.ShapeCasts S1x2048x2048) (a b : Fin 2048) :
    shapeCast S1x2048x2048 X h (ix3 0 a b) = X (ix2 a b) := by
  pointwise

/-- The row of position words turned into a column of numbers. -/
theorem position_column (X : IVec S1x2048 32) (h : S1x2048.ShapeCasts S2048x1) (a : Fin 2048) :
    (sitofp .f32 (shapeCast S2048x1 X h) : FVec Ideal S2048x1 .f32) (ix2 a 0) = (((X (ix2 0 a)).toInt : ℝ) : EReal) := by
  pointwise
  rfl

variable (m : (ℓ : Loc nD τ sig) → Buf (Elt Ideal) ℓ) (ρ : Dev nD → PrngReg) (c : Dev nD)

/-- The first launch's inputs are the hidden states of the one batch entry. -/
theorem x_array (a b : Fin 2048) : (V1 m ρ c main_v0 : Vec Ideal S2048x2048 .f32) (ix2 a b)
    = (m ((c.tc : Thread nD τ).loc main_arg0) : Vec Ideal S1x2048x2048 .f32) (ix3 0 a b) := by
  simp only [V1, W1]
  after_results
  exact drop_batch _ _ a b

/-- The first launch's positions are the position words read as numbers. -/
theorem p_array (a : Fin 2048) : (V1 m ρ c main_v2 : Vec Ideal S2048x1 .f32) (ix2 a 0)
    = ((((m ((c.tc : Thread nD τ).loc main_arg1) : IVec S1x2048 32) (ix2 0 a)).toInt : ℝ) : EReal) := by
  simp only [V1, W1]
  after_results
  exact position_column _ _ a

/-- The result as the host leaves it: the second launch's array under the batch axis. -/
theorem v5_array (a b : Fin 2048) : (W4 m ρ c (Proc.devRef .tc main_v5) : Vec Ideal S1x2048x2048 .f32) (ix3 0 a b)
    = (W3 m ρ c (Proc.devRef .tc main_v4) : Vec Ideal S2048x2048 .f32) (ix2 a b) := by
  simp only [W4]
  after_results
  exact add_batch _ _ a b

end Host

/-! ## The result over the arguments -/

/-- Row `128 * (C / 128) + e` of a projection's weights: row `e` of the head column `C` belongs to. -/
def headRow (C : Fin 2048) (e : Fin 128) : Fin 2048 := ⟨128 * (C.val / 128) + e.val, by omega⟩

/-- The lane of its head that column `C` is. -/
def lane (C : Fin 2048) : Fin 128 := ⟨C.val % 128, by omega⟩

/-- The position words, read as numbers. -/
def positions (P : IVec S1x2048 32) (r : Fin 2048) : EReal := (((P (ix2 0 r)).toInt : ℝ) : EReal)

/-- Entry (a, b) of the kernel's result over its arguments. -/
def resultK (H : Vec Ideal S1x2048x2048 .f32) (P : IVec S1x2048 32) (Wq Wk Wv Wo : Vec Ideal S2048x2048 .f32)
    (a b : Fin 2048) : EReal :=
  proj (fun C => headK (fun r i => H (ix3 0 r i)) (positions P) (fun e i => Wq (ix2 (headRow C e) i))
      (fun e i => Wk (ix2 (headRow C e) i)) (fun e i => Wv (ix2 (headRow C e) i)) a (lane C))
    (fun C => Wo (ix2 b C))

section Result

variable (m : (ℓ : Loc nD τ sig) → Buf (Elt Ideal) ℓ) (ρ : Dev nD → PrngReg) (c : Dev nD)

/-- The context array the second launch reads, over the arguments. -/
theorem ctx_value (a C : Fin 2048) : (V2 m ρ c main_v3 : Vec Ideal S2048x2048 .bf16) (ix2 a C)
    = headK (fun r i => (m ((c.tc : Thread nD τ).loc main_arg0) : Vec Ideal S1x2048x2048 .f32) (ix3 0 r i))
        (positions (m ((c.tc : Thread nD τ).loc main_arg1)))
        (fun e i => (m ((c.tc : Thread nD τ).loc main_arg2) : Vec Ideal S2048x2048 .f32) (ix2 (headRow C e) i))
        (fun e i => (m ((c.tc : Thread nD τ).loc main_arg3) : Vec Ideal S2048x2048 .f32) (ix2 (headRow C e) i))
        (fun e i => (m ((c.tc : Thread nD τ).loc main_arg4) : Vec Ideal S2048x2048 .f32) (ix2 (headRow C e) i)) a (lane C) := by
  have h : (V2 m ρ c main_v3 : Vec Ideal S2048x2048 .bf16)
      = fun i => ctxK (V1 m ρ c main_v0) (V1 m ρ c main_v2) (V1 m ρ c main_arg2) (V1 m ρ c main_arg3) (V1 m ρ c main_arg4)
          (i 0) (i 1) := (W2_arr m ρ c 5).trans (ctx_array (V1 m ρ) c)
  have h2 : V1 m ρ c main_arg2 = m ((c.tc : Thread nD τ).loc main_arg2) := W1_args m ρ c main_arg2 (by decide)
  have h3 : V1 m ρ c main_arg3 = m ((c.tc : Thread nD τ).loc main_arg3) := W1_args m ρ c main_arg3 (by decide)
  have h4 : V1 m ρ c main_arg4 = m ((c.tc : Thread nD τ).loc main_arg4) := W1_args m ρ c main_arg4 (by decide)
  rw [h, h2, h3, h4]
  change ctxK _ _ _ _ _ a C = _
  have hx : (fun r i => (V1 m ρ c main_v0 : Vec Ideal S2048x2048 .f32) (ix2 r i))
      = fun r i => (m ((c.tc : Thread nD τ).loc main_arg0) : Vec Ideal S1x2048x2048 .f32) (ix3 0 r i) :=
    funext fun r => funext fun i => x_array m ρ c r i
  have hp : (fun r => (V1 m ρ c main_v2 : Vec Ideal S2048x1 .f32) (ix2 r 0))
      = positions (m ((c.tc : Thread nD τ).loc main_arg1)) := funext fun r => p_array m ρ c r
  unfold ctxK
  rw [hx, hp]
  rfl

/-- The kernel's result array, over the arguments. -/
theorem kernel_value (a b : Fin 2048) : (W4 m ρ c (Proc.devRef .tc main_v5) : Vec Ideal S1x2048x2048 .f32) (ix3 0 a b)
    = resultK (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) a b := by
  rw [v5_array]
  have h : (W3 m ρ c (Proc.devRef .tc main_v4) : Vec Ideal S2048x2048 .f32)
      = fun i => outK (V2 m ρ c main_v3) (V2 m ρ c main_arg5) (i 0) (i 1) :=
    (W3_arr m ρ c 2).trans (out_array (V2 m ρ) c)
  have h5 : V2 m ρ c main_arg5 = m ((c.tc : Thread nD τ).loc main_arg5) := W2_args m ρ c main_arg5 (by decide)
  rw [h, h5]
  change outK _ _ a b = _
  unfold outK resultK
  exact congrArg (fun f => proj f _) (funext fun C => ctx_value m ρ c a C)

end Result

end Cert.Attn

end
-- ==== Proof.RefTerm.lean ====
/- The reference's composed term, named stage by stage, and each stage read at an index. -/
module

public import proofs.«01_k».proof.Proof.Gen.ReferenceIdeal
public import proofs.«01_k».proof.Proof.Gen.ReferenceIdeal.Run
public import proofs.«01_k».proof.Proof.Softmax
public import Idealize.ShloMosaic.Lib.Pointwise
public import Idealize.ShloMosaic.Lib.Claim

@[expose] public section

noncomputable section

namespace Cert.Attn

open Idealize.ShloMosaic Idealize.SL.Sem Cert.ReferenceIdeal Cert.ReferenceIdeal.Gen

/-! ## The stages -/

/-- The inverse frequencies of the 64 lane pairs. -/
def freqR : FVec Ideal S64 .f32 :=
  Host.divf (broadcastInDim S64 ![] bcast_S_S64 (constant S_ .f32 0x3F800000#32)) (Host.powf (broadcastInDim S64 ![] bcast_S_S64 (constant S_ .f32 0x461C4000#32)) (Host.divf (addf (broadcastInDim S64 ![] bcast_S_S64 (constant S_ .f32 0x00000000#32)) (mulf (broadcastInDim S64 ![] bcast_S_S64 (constant S_ .f32 0x40000000#32)) (sitofp .f32 (iotaInDim S64 32 0)))) (broadcastInDim S64 ![] bcast_S_S64 (constant S_ .f32 0x43000000#32))))

/-- The angles: position times frequency. -/
def angR (p : IVec S1x2048 32) : FVec Ideal S1x2048x64 .f32 :=
  mulf (broadcastInDim S1x2048x64 ![0, 1, 2] bcast_S1x2048x1_S1x2048x64_0_1_2 (broadcastInDim S1x2048x1 ![0, 1] bcast_S1x2048_S1x2048x1_0_1 (sitofp .f32 p))) (broadcastInDim S1x2048x64 ![0, 1, 2] bcast_S1x1x64_S1x2048x64_0_1_2 (broadcastInDim S1x1x64 ![2] bcast_S64_S1x1x64_2 freqR))

/-- The angles of both halves of a head's lanes. -/
def ang2R (p : IVec S1x2048 32) : FVec Ideal S1x2048x128 .f32 :=
  concatenate S1x2048x128 2 [⟨S1x2048x64, angR p⟩, ⟨S1x2048x64, angR p⟩] concatenates_S1x2048x64_S1x2048x64_S1x2048x128_d2

/-- A table over the tokens and the lanes, the same for every head. -/
def headsR (x : FVec Ideal S1x2048x128 .f32) : FVec Ideal S1x16x2048x128 .f32 :=
  broadcastInDim S1x16x2048x128 ![0, 1, 2, 3] bcast_S1x1x2048x128_S1x16x2048x128_0_1_2_3 (broadcastInDim S1x1x2048x128 ![0, 2, 3] bcast_S1x2048x128_S1x1x2048x128_0_2_3 x)

/-- A projection, split into heads. -/
def projR (x : FVec Ideal S1x2048x2048 .f32) (w : FVec Ideal S2048x2048 .f32) : FVec Ideal S1x16x2048x128 .f32 :=
  transpose S1x16x2048x128 [0, 2, 1, 3] (shapeCast _ (Host.dotGeneral dot_S1x2048x2048_S2048x2048_S1x2048x2048_2_0_01_1_n_n none x (transpose S2048x2048 [1, 0] w transposes_S2048x2048_S2048x2048_1_0)) shapeCasts_S1x2048x2048_S1x2048x16x128) transposes_S1x2048x16x128_S1x16x2048x128_0_2_1_3

/-- The rotation of a split projection. -/
def rotR (h : FVec Ideal S1x16x2048x128 .f32) (cs sn : FVec Ideal S1x16x2048x128 .f32) : FVec Ideal S1x16x2048x128 .f32 :=
  addf (mulf h cs) (mulf (concatenate S1x16x2048x128 3 [⟨S1x16x2048x64, (Host.negf (extractStridedSlice S1x16x2048x64 ![0, 0, 0, 64] h slices_S1x16x2048x128_S1x16x2048x64_0_0_0_64))⟩, ⟨S1x16x2048x64, (extractStridedSlice S1x16x2048x64 ![0, 0, 0, 0] h slices_S1x16x2048x128_S1x16x2048x64_0_0_0_0)⟩] concatenates_S1x16x2048x64_S1x16x2048x64_S1x16x2048x128_d3) sn)

/-- The causal mask: 0 where the key is not after the query, −∞ elsewhere. -/
def maskR : FVec Ideal S1x16x2048x2048 .f32 :=
  broadcastInDim S1x16x2048x2048 ![0, 1, 2, 3] bcast_S1x1x2048x2048_S1x16x2048x2048_0_1_2_3 (broadcastInDim S1x1x2048x2048 ![2, 3] bcast_S2048x2048_S1x1x2048x2048_2_3 (select (select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 1#1)) (broadcastInDim S2048x2048 ![] bcast_S_S2048x2048 (constantI S_ 1 0#1))) (broadcastInDim S2048x2048 ![] bcast_S_S2048x2048 (constant S_ .f32 0x00000000#32)) (broadcastInDim S2048x2048 ![] bcast_S_S2048x2048 (constant S_ .f32 0xFF800000#32))))

/-- The masked scores. -/
def scoreR (q k : FVec Ideal S1x16x2048x128 .f32) : FVec Ideal S1x16x2048x2048 .f32 :=
  maximumf (addf (Host.divf (Host.dotGeneral dot_S1x16x2048x128_S1x16x2048x128_S1x16x2048x2048_3_3_2_2_01_01 none q k) (broadcastInDim S1x16x2048x2048 ![] bcast_S_S1x16x2048x2048 (Host.sqrt (constant S_ .f32 0x43000000#32)))) maskR) (broadcastInDim S1x16x2048x2048 ![] bcast_S_S1x16x2048x2048 (constant S_ .f32 0xFF800000#32))

/-- The greatest score of each row. -/
def maxR (w : FVec Ideal S1x16x2048x2048 .f32) : FVec Ideal S1x16x2048 .f32 :=
  Host.reduce FloatOps.maximumf w (constant S_ .f32 0xFF800000#32) reducesTo_S1x16x2048x2048_S1x16x2048_d3 h_S_

/-- A row maximum taken against −∞ once more. -/
def topR (x : FVec Ideal S1x16x2048 .f32) : FVec Ideal S1x16x2048 .f32 :=
  maximumf (broadcastInDim S1x16x2048 ![] bcast_S_S1x16x2048 (constant S_ .f32 0xFF800000#32)) x

/-- A value per row, along the row's columns. -/
def spreadR (x : FVec Ideal S1x16x2048 .f32) : FVec Ideal S1x16x2048x2048 .f32 :=
  broadcastInDim S1x16x2048x2048 ![0, 1, 2, 3] bcast_S1x16x2048x1_S1x16x2048x2048_0_1_2_3 (broadcastInDim S1x16x2048x1 ![0, 1, 2] bcast_S1x16x2048_S1x16x2048x1_0_1_2 x)

/-- The exponentials of the scores less their row's greatest. -/
def expR (w : FVec Ideal S1x16x2048x2048 .f32) : FVec Ideal S1x16x2048x2048 .f32 :=
  Host.exp (subf w (spreadR (topR (maxR w))))

/-- The sum of each row. -/
def sumR (e : FVec Ideal S1x16x2048x2048 .f32) : FVec Ideal S1x16x2048 .f32 :=
  Host.reduceAdd e (constant S_ .f32 0x00000000#32) reducesTo_S1x16x2048x2048_S1x16x2048_d3 h_S_

/-- The attention weights: each exponential over its row's sum. -/
def weightR (e : FVec Ideal S1x16x2048x2048 .f32) : FVec Ideal S1x16x2048x2048 .f32 :=
  Host.divf e (spreadR (sumR e))

/-- The weighted values, the heads joined. -/
def joinR (p : FVec Ideal S1x16x2048x2048 .f32) (v : FVec Ideal S1x16x2048x128 .f32) : FVec Ideal S1x2048x2048 .f32 :=
  shapeCast _ (transpose S1x2048x16x128 [0, 2, 1, 3] (Host.dotGeneral dot_S1x16x2048x2048_S1x16x2048x128_S1x16x2048x128_3_2_2_3_01_01 none p v) transposes_S1x16x2048x128_S1x2048x16x128_0_2_1_3) shapeCasts_S1x2048x16x128_S1x2048x2048

/-- The output projection. -/
def outR (x : FVec Ideal S1x2048x2048 .f32) (w : FVec Ideal S2048x2048 .f32) : FVec Ideal S1x2048x2048 .f32 :=
  Host.dotGeneral dot_S1x2048x2048_S2048x2048_S1x2048x2048_2_0_01_1_n_n none x (transpose S2048x2048 [1, 0] w transposes_S2048x2048_S2048x2048_1_0)

/-- The reference over its arguments. -/
def resultR (x : FVec Ideal S1x2048x2048 .f32) (p : IVec S1x2048 32) (wq wk wv wo : FVec Ideal S2048x2048 .f32) :
    FVec Ideal S1x2048x2048 .f32 :=
  outR (joinR (weightR (expR (scoreR (rotR (projR x wq) (headsR (Host.cos (ang2R p))) (headsR (Host.sin (ang2R p))))
    (rotR (projR x wk) (headsR (Host.cos (ang2R p))) (headsR (Host.sin (ang2R p))))))) (projR x wv)) wo

/-- The reference's run ends at these stages. -/
theorem result_stages (m : (ℓ : Loc nD τ sig) → Buf (Elt Ideal) ℓ) (c : Dev nD) :
    Value.res_out0 m c = resultR (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

end Cert.Attn

end
-- ==== Proof.RefValue.lean ====
/- The reference's stages read at an index. -/
module

public import proofs.«01_k».proof.Proof.RefTerm
public import Idealize.ShloMosaic.Lib.Pointwise

@[expose] public section

noncomputable section

namespace Cert.Attn

open Idealize.ShloMosaic Cert.ReferenceIdeal Cert.ReferenceIdeal.Gen

/-! ## Constants -/

/-- The word of 10000. -/
theorem word_10000 : Ideal.ofBits FTy.f32 1176256512#32 = ((10000 : ℝ) : EReal) := by
  simp [Ideal.ofBits, Ideal.ieee, -EReal.coe_mul]; norm_num

/-- The word of 2. -/
theorem word_2 : Ideal.ofBits FTy.f32 1073741824#32 = ((2 : ℝ) : EReal) := by
  simp [Ideal.ofBits, Ideal.ieee, -EReal.coe_mul]; norm_num

/-- The word of 128. -/
theorem word_128 : Ideal.ofBits FTy.f32 1124073472#32 = ((128 : ℝ) : EReal) := by
  simp [Ideal.ofBits, Ideal.ieee, -EReal.coe_mul]; norm_num

/-- The word of −∞. -/
theorem word_bot : Ideal.ofBits FTy.f32 4286578688#32 = (⊥ : EReal) := by
  simp [Ideal.ofBits, Ideal.ieee]

/-- The number a small lane's word stands for. -/
theorem lane_number (e : Fin 64) :
    (FloatOps.sitofp FTy.f32 (BitVec.ofNat 32 e.val) : Ideal .f32) = (((e.val : ℕ) : ℝ) : EReal) := by
  change (((BitVec.ofNat 32 e.val).toInt : ℝ) : EReal) = _
  rw [WordCmp.toInt_ofNat_of_lt (by omega)]
  norm_cast

/-! ## The stages -/

/-- Lane pair `e`'s frequency. -/
theorem freqR_apply (e : Fin 64) : freqR (ix1 e) = (freq e.val : EReal) := by
  pointwise [freqR]
  have h := freq_eq e.val
  rw [zero_add] at h
  simp only [word_10000, word_2, word_128, lane_number]
  exact h

/-- The angle of token `r` at lane `d`: its position times the lane's frequency. -/
theorem ang2R_apply (p : IVec S1x2048 32) (r : Fin 2048) (d : Fin 128) :
    ang2R p (ix3 0 r d) = (((p (ix2 0 r)).toInt : ℝ) : EReal) * (freq (half d.val) : EReal) := by
  pointwise [ang2R, angR]
  by_cases hd : d.val < 64
  · simp only [dif_pos hd, half, if_pos hd, freqR_apply]; rfl
  · simp only [dif_neg hd, half, if_neg hd, freqR_apply]; rfl

/-- A split projection at head `h`, token `r` and lane `d`. -/
theorem projR_apply (x : FVec Ideal S1x2048x2048 .f32) (w : FVec Ideal S2048x2048 .f32) (h : Fin 16) (r : Fin 2048) (d : Fin 128) :
    projR x w (ix4 0 h r d) = proj (fun i => x (ix3 0 r i)) (fun i => w (ix2 ⟨h.val * 128 + d.val, by omega⟩ i)) := by
  pointwise [projR]
  rfl

/-- A table over the heads does not depend on the head. -/
theorem headsR_apply (x : FVec Ideal S1x2048x128 .f32) (h : Fin 16) (r : Fin 2048) (d : Fin 128) :
    headsR x (ix4 0 h r d) = x (ix3 0 r d) := by
  pointwise [headsR]

/-- The rotation at an index: lane `d` by the cosine, the lane half a head away by the sine. -/
theorem rotR_apply (x c s : FVec Ideal S1x16x2048x128 .f32) (h : Fin 16) (r : Fin 2048) (d : Fin 128) :
    rotR x c s (ix4 0 h r d) = x (ix4 0 h r d) * c (ix4 0 h r d)
      + (if hd : d.val < 64 then -x (ix4 0 h r ⟨64 + d.val, by omega⟩) else x (ix4 0 h r ⟨d.val - 64, by omega⟩)) * s (ix4 0 h r d) := by
  pointwise [rotR]

/-- The causal mask at row `r` and column `j`. -/
theorem maskR_apply (h : Fin 16) (r j : Fin 2048) :
    maskR (ix4 0 h r j) = if j.val ≤ r.val then (0 : EReal) else ⊥ := by
  pointwise [maskR]
  have h0 : IntOp.addi (BitVec.ofNat 32 r.val) 0#32 = IntOp.addi (BitVec.ofNat 32 0) (BitVec.ofNat 32 r.val) := by
    simp [IntOp.addi]
  simp only [h0, word_bot]
  have h1 := select_causal 0 r.val j.val (by omega) (by omega) (1#1) (0#1)
  rw [zero_add] at h1
  simp only [h1]
  by_cases hj : j.val ≤ r.val
  · simp only [if_pos hj]; rfl
  · simp only [if_neg hj]; rfl

/-- The square root the scores are divided by. -/
theorem root_128 : Ideal.sqrt ((128 : ℝ) : EReal) = ((Real.sqrt 128 : ℝ) : EReal) := by
  rw [Ideal.sqrt_coe, if_neg (by norm_num)]

/-- The masked scores of head `h`. -/
theorem scoreR_apply (q k : FVec Ideal S1x16x2048x128 .f32) (h : Fin 16) (r j : Fin 2048) :
    scoreR q k (ix4 0 h r j) = scores (fun a e => q (ix4 0 h a e)) (fun a e => k (ix4 0 h a e)) r j := by
  pointwise [scoreR]
  simp only [word_128, word_bot, maskR_apply, root_128]
  unfold scores masked
  by_cases hj : j.val ≤ r.val
  · simp only [if_pos hj, add_zero, max_bot_right]
  · simp only [if_neg hj, EReal.add_bot, max_bot_right]

/-- A maximum along the last axis of a rank-four array. -/
theorem row_max {n0 n1 n2 n3 : ℕ} {t u : Shape} (w : FVec Ideal ⟨4, ![n0, n1, n2, n3]⟩ .f32) (z : FVec Ideal u .f32)
    (H : (⟨4, ![n0, n1, n2, n3]⟩ : Shape).ReducesTo [3] t) (hu : 0 < u.numel) (j : t.Idx) :
    Host.reduce FloatOps.maximumf w z H hu j
      = Finset.univ.fold max (z (Shape.Idx.first hu)) (fun i => w (ix4
          ⟨(j ⟨0, H.lt_r4_a3_0⟩).val, Shape.coordLt (j ⟨0, H.lt_r4_a3_0⟩) H.size_r4_a3_0⟩
          ⟨(j ⟨1, H.lt_r4_a3_1⟩).val, Shape.coordLt (j ⟨1, H.lt_r4_a3_1⟩) H.size_r4_a3_1⟩
          ⟨(j ⟨2, H.lt_r4_a3_2⟩).val, Shape.coordLt (j ⟨2, H.lt_r4_a3_2⟩) H.size_r4_a3_2⟩ i)) :=
  (Host.reduce_eq_fold FloatOps.maximumf w z H hu j).trans (H.fold_fiber_r4_a3 j _ _ w)

/-- The greatest score of row `r` of head `h`. -/
theorem maxR_apply (w : FVec Ideal S1x16x2048x2048 .f32) (h : Fin 16) (r : Fin 2048) :
    maxR w (ix3 0 h r) = Finset.univ.fold max (⊥ : EReal) (fun i => w (ix4 0 h r i)) := by
  have hb : (constant S_ .f32 0xFF800000#32 : FVec Ideal S_ .f32) (Shape.Idx.first h_S_) = (⊥ : EReal) := word_bot
  rw [maxR, row_max, hb]
  rfl

/-- Against −∞ a maximum is itself. -/
theorem topR_apply (x : FVec Ideal S1x16x2048 .f32) (h : Fin 16) (r : Fin 2048) : topR x (ix3 0 h r) = x (ix3 0 h r) := by
  have hb : topR x (ix3 0 h r) = max (Ideal.ofBits FTy.f32 4286578688#32) (x (ix3 0 h r) : EReal) := rfl
  rw [hb, word_bot]
  exact max_bot_left _

/-- A row's value at each of its columns. -/
theorem spreadR_apply (x : FVec Ideal S1x16x2048 .f32) (h : Fin 16) (r j : Fin 2048) :
    spreadR x (ix4 0 h r j) = x (ix3 0 h r) := by
  pointwise [spreadR]

/-- The exponential of a score less its row's greatest. -/
theorem expR_apply (w : FVec Ideal S1x16x2048x2048 .f32) (h : Fin 16) (r j : Fin 2048) :
    expR w (ix4 0 h r j) = Ideal.exp ((w (ix4 0 h r j) : EReal) - (maxR w (ix3 0 h r) : EReal)) := by
  have he : expR w (ix4 0 h r j)
      = Ideal.exp ((w (ix4 0 h r j) : EReal) - (spreadR (topR (maxR w)) (ix4 0 h r j) : EReal)) := rfl
  rw [he, spreadR_apply, topR_apply]

/-- A sum along the last axis of a rank-four array. -/
theorem row_sum {n0 n1 n2 n3 : ℕ} {t u : Shape} (w : FVec Ideal ⟨4, ![n0, n1, n2, n3]⟩ .f32) (z : FVec Ideal u .f32)
    (H : (⟨4, ![n0, n1, n2, n3]⟩ : Shape).ReducesTo [3] t) (hu : 0 < u.numel) (j : t.Idx) :
    Host.reduceAdd w z H hu j
      = (z (Shape.Idx.first hu) : EReal) + ∑ i, (w (ix4
          ⟨(j ⟨0, H.lt_r4_a3_0⟩).val, Shape.coordLt (j ⟨0, H.lt_r4_a3_0⟩) H.size_r4_a3_0⟩
          ⟨(j ⟨1, H.lt_r4_a3_1⟩).val, Shape.coordLt (j ⟨1, H.lt_r4_a3_1⟩) H.size_r4_a3_1⟩
          ⟨(j ⟨2, H.lt_r4_a3_2⟩).val, Shape.coordLt (j ⟨2, H.lt_r4_a3_2⟩) H.size_r4_a3_2⟩ i) : EReal) :=
  Ideal.hostReduceAdd_r4_a3 H w (z (Shape.Idx.first hu)) j

/-- The sum of row `r` of head `h`. -/
theorem sumR_apply (w : FVec Ideal S1x16x2048x2048 .f32) (h : Fin 16) (r : Fin 2048) :
    sumR w (ix3 0 h r) = ∑ i, (w (ix4 0 h r i) : EReal) := by
  have hb : (constant S_ .f32 0x00000000#32 : FVec Ideal S_ .f32) (Shape.Idx.first h_S_) = (0 : EReal) :=
    Ideal.ofBits_zero_f32
  rw [sumR, row_sum, hb]
  exact zero_add _

/-- A weight: an exponential over its row's sum. -/
theorem weightR_apply (w : FVec Ideal S1x16x2048x2048 .f32) (h : Fin 16) (r j : Fin 2048) :
    weightR w (ix4 0 h r j) = Ideal.div (w (ix4 0 h r j)) (sumR w (ix3 0 h r)) := by
  have hd : weightR w (ix4 0 h r j) = Ideal.div (w (ix4 0 h r j)) (spreadR (sumR w) (ix4 0 h r j)) := rfl
  rw [hd, spreadR_apply]

/-- The joined heads: column `C` is lane `C % 128` of head `C / 128`. -/
theorem joinR_apply (p : FVec Ideal S1x16x2048x2048 .f32) (v : FVec Ideal S1x16x2048x128 .f32) (r C : Fin 2048) :
    joinR p v (ix3 0 r C) = ∑ j, (p (ix4 0 ⟨C.val / 128, by omega⟩ r j) : EReal) * v (ix4 0 ⟨C.val / 128, by omega⟩ j ⟨C.val % 128, by omega⟩) := by
  pointwise [joinR]

/-- The output projection at an index. -/
theorem outR_apply (x : FVec Ideal S1x2048x2048 .f32) (w : FVec Ideal S2048x2048 .f32) (a b : Fin 2048) :
    outR x w (ix3 0 a b) = proj (fun C => x (ix3 0 a C)) (fun C => w (ix2 b C)) := by
  pointwise [outR]
  rfl

end Cert.Attn

end
-- ==== Proof.Equation.lean ====
/- The reference's value at an index, and the equation between the two results. -/
module

public import proofs.«01_k».proof.Proof.Array
public import proofs.«01_k».proof.Proof.RefValue

@[expose] public section

noncomputable section

namespace Cert.Attn

open Idealize.ShloMosaic

/-- Row `h * 128 + e` of the weights is row `e` of the head that column `C` belongs to, when `h` is that head. -/
theorem head_row (C : Fin 2048) (e : Fin 128) (h : (C.val / 128) * 128 + e.val < 2048) :
    (⟨(C.val / 128) * 128 + e.val, h⟩ : Fin 2048) = headRow C e := Fin.ext (by simp only [headRow]; omega)

section

variable (x : FVec Ideal Cert.ReferenceIdeal.S1x2048x2048 .f32) (p : IVec Cert.ReferenceIdeal.S1x2048 32)
  (wq wk wv wo : FVec Ideal Cert.ReferenceIdeal.S2048x2048 .f32)

/-- The head that column `C` belongs to. -/
def headOf (C : Fin 2048) : Fin 16 := ⟨C.val / 128, by omega⟩

/-- The projection of the head that column `C` belongs to. -/
theorem projR_head (w : FVec Ideal Cert.ReferenceIdeal.S2048x2048 .f32) (C r : Fin 2048) (d : Fin 128) :
    projR x w (ix4 0 (headOf C) r d) = proj (fun i => x (ix3 0 r i)) (fun i => w (ix2 (headRow C d) i)) := by
  rw [projR_apply]
  exact congrArg (proj _) (funext fun i => congrArg (fun k => w (ix2 k i)) (head_row C d _))

/-- The rotated projection of that head. -/
theorem rotR_head (w : FVec Ideal Cert.ReferenceIdeal.S2048x2048 .f32) (C r : Fin 2048) (e : Fin 128) :
    rotR (projR x w) (headsR (Host.cos (ang2R p))) (headsR (Host.sin (ang2R p))) (ix4 0 (headOf C) r e)
      = rotated (positions p r) (fun i => x (ix3 0 r i)) (fun d i => w (ix2 (headRow C d) i)) e := by
  have hc : headsR (Host.cos (ang2R p)) (ix4 0 (headOf C) r e) = cosAt (positions p r) e.val :=
    (headsR_apply _ _ _ _).trans (congrArg Ideal.cos (ang2R_apply p r e))
  have hs : headsR (Host.sin (ang2R p)) (ix4 0 (headOf C) r e) = sinAt (positions p r) e.val :=
    (headsR_apply _ _ _ _).trans (congrArg Ideal.sin (ang2R_apply p r e))
  rw [rotR_apply, hc, hs]
  simp only [projR_head]
  rfl

/-- The weighted values of row `r` at column `C`: the softmax over the scores of column `C`'s head. -/
theorem joinR_head (q k v : FVec Ideal Cert.ReferenceIdeal.S1x16x2048x128 .f32) (r C : Fin 2048) :
    joinR (weightR (expR (scoreR q k))) v (ix3 0 r C)
      = soft (scores (fun a e => q (ix4 0 (headOf C) a e)) (fun a e => k (ix4 0 (headOf C) a e)) r)
          (fun j => v (ix4 0 (headOf C) j (lane C))) := by
  have hw : ∀ j, scoreR q k (ix4 0 (headOf C) r j)
      = scores (fun a e => q (ix4 0 (headOf C) a e)) (fun a e => k (ix4 0 (headOf C) a e)) r j :=
    fun j => scoreR_apply q k _ r j
  have hm : maxR (scoreR q k) (ix3 0 (headOf C) r) = Finset.univ.fold max (⊥ : EReal)
      (scores (fun a e => q (ix4 0 (headOf C) a e)) (fun a e => k (ix4 0 (headOf C) a e)) r) :=
    (maxR_apply _ _ _).trans (congrArg (fun f => Finset.univ.fold max (⊥ : EReal) f) (funext hw))
  have he : ∀ j, expR (scoreR q k) (ix4 0 (headOf C) r j)
      = Ideal.exp (scores (fun a e => q (ix4 0 (headOf C) a e)) (fun a e => k (ix4 0 (headOf C) a e)) r j
          - Finset.univ.fold max (⊥ : EReal)
            (scores (fun a e => q (ix4 0 (headOf C) a e)) (fun a e => k (ix4 0 (headOf C) a e)) r)) := fun j => by
    rw [expR_apply, hm, hw]
  have hs : sumR (expR (scoreR q k)) (ix3 0 (headOf C) r)
      = ∑ i, Ideal.exp (scores (fun a e => q (ix4 0 (headOf C) a e)) (fun a e => k (ix4 0 (headOf C) a e)) r i
          - Finset.univ.fold max (⊥ : EReal)
            (scores (fun a e => q (ix4 0 (headOf C) a e)) (fun a e => k (ix4 0 (headOf C) a e)) r)) :=
    (sumR_apply _ _ _).trans (Finset.sum_congr rfl fun i _ => he i)
  rw [joinR_apply]
  refine Finset.sum_congr rfl fun j _ => ?_
  change (weightR (expR (scoreR q k)) (ix4 0 (headOf C) r j) : EReal) * v (ix4 0 (headOf C) j (lane C)) = _
  rw [weightR_apply, he, hs]

/-- Entry (a, b) of the reference's result over its arguments. -/
theorem resultR_apply (a b : Fin 2048) :
    resultR x p wq wk wv wo (ix3 0 a b)
      = proj (fun C => soft (scores
            (fun r e => rotated (positions p r) (fun i => x (ix3 0 r i)) (fun d i => wq (ix2 (headRow C d) i)) e)
            (fun r e => rotated (positions p r) (fun i => x (ix3 0 r i)) (fun d i => wk (ix2 (headRow C d) i)) e) a)
          (fun r => proj (fun i => x (ix3 0 r i)) (fun i => wv (ix2 (headRow C (lane C)) i))))
        (fun C => wo (ix2 b C)) := by
  rw [resultR, outR_apply]
  refine congrArg (fun f => proj f _) (funext fun C => ?_)
  rw [joinR_head]
  simp only [rotR_head, projR_head]

/-- Where the inputs and the weights of the queries and keys are real, the kernel's result is the reference's. -/
theorem result_eq (hx : ∀ i, IsReal (x i)) (hq : ∀ i, IsReal (wq i)) (hk : ∀ i, IsReal (wk i)) (a b : Fin 2048) :
    resultK x p wq wk wv wo a b = resultR x p wq wk wv wo (ix3 0 a b) := by
  rw [resultR_apply]
  unfold resultK
  refine congrArg (fun f => proj f _) (funext fun C => ?_)
  exact attend_eq (fun r e => rotated_real _ (fun i => hx _) (fun d i => hq _) e)
    (fun r e => rotated_real _ (fun i => hx _) (fun d i => hk _) e) _ a

end

end Cert.Attn

end
-- ==== Proof.lean ====
/- The claims, put together: the programs' runs, the two named constants, and the equation between the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.KernelRun
public import proofs.«01_k».proof.Proof.Finite
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem Cert.Attn

/-- The reference ends with its arguments unchanged and every counter at zero. -/
theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The same under the precondition. -/
theorem reference_frame_finite : Cert.quiescent_ReferenceIdeal_pre_finite := fun m g _ => reference_frame m g trivial

/-- The kernel's two named constants stand for the reals that are stated for them. -/
theorem constants : Cert.preserves_Kernel_KernelIdeal :=
  ⟨IdealRules.named_const.statement Cert.KernelIdeal.κ "rope" .f32 0xBE549A78#32 _ rfl,
   IdealRules.named_const.statement Cert.KernelIdeal.κ "scale2" .f32 0x3E0293EE#32 _ rfl⟩

/-- The kernel's result array is the reference's, entry by entry, where the precondition holds. -/
theorem results_agree (m : (ℓ : Loc Cert.KernelIdeal.nD Cert.KernelIdeal.τ Cert.KernelIdeal.sig) → Buf (Elt Ideal) ℓ)
    (g : Dev Cert.KernelIdeal.nD → PrngReg)
    (x : FVec Ideal Cert.ReferenceIdeal.S1x2048x2048 .f32) (p : IVec Cert.ReferenceIdeal.S1x2048 32)
    (wq wk wv wo : FVec Ideal Cert.ReferenceIdeal.S2048x2048 .f32) (c : Dev Cert.KernelIdeal.nD)
    (hpre : Cert.Pre_KernelIdeal_finite m)
    (h0 : x = m ((c.tc : Thread Cert.KernelIdeal.nD Cert.KernelIdeal.τ).loc Cert.KernelIdeal.main_arg0))
    (h1 : p = m ((c.tc : Thread Cert.KernelIdeal.nD Cert.KernelIdeal.τ).loc Cert.KernelIdeal.main_arg1))
    (h2 : wq = m ((c.tc : Thread Cert.KernelIdeal.nD Cert.KernelIdeal.τ).loc Cert.KernelIdeal.main_arg2))
    (h3 : wk = m ((c.tc : Thread Cert.KernelIdeal.nD Cert.KernelIdeal.τ).loc Cert.KernelIdeal.main_arg3))
    (h4 : wv = m ((c.tc : Thread Cert.KernelIdeal.nD Cert.KernelIdeal.τ).loc Cert.KernelIdeal.main_arg4))
    (h5 : wo = m ((c.tc : Thread Cert.KernelIdeal.nD Cert.KernelIdeal.τ).loc Cert.KernelIdeal.main_arg5)) :
    resultR x p wq wk wv wo = Cert.KernelIdeal.Gen.W4 m g c (Proc.devRef .tc Cert.KernelIdeal.main_v5) := by
  have hf : Cert.Pre_finite.fn (F := Ideal) x p wq wk wv wo = fun _ => 1#1 := by
    rw [h0, h1, h2, h3, h4, h5]; exact hpre c
  obtain ⟨hx, hq, hk⟩ := finite_real x p wq wk wv wo hf
  refine funext fun i => ?_
  have hi : i = ix3 0 (i 1) (i 2) := by
    funext a
    match a with
    | ⟨0, _⟩ => exact Subsingleton.elim (α := Fin 1) _ _
    | ⟨1, _⟩ => rfl
    | ⟨2, _⟩ => rfl
  have hk := kernel_value m g c (i 1) (i 2)
  rw [← h0, ← h1, ← h2, ← h3, ← h4, ← h5] at hk
  rw [hi]
  exact (result_eq x p wq wk wv wo hx hq ‹_› (i 1) (i 2)).symm.trans hk.symm

/-- The value claim: both programs end at one result array. -/
theorem values : Cert.algebraic_KernelIdeal_ReferenceIdeal_pre_finite := fun m g m' g' hpre hagree =>
  ⟨fun c => Cert.KernelIdeal.Gen.W4 m g c (Proc.devRef .tc Cert.KernelIdeal.main_v5),
    Cert.KernelIdeal.Gen.run_value m g,
    (θ_run Cert.ReferenceIdeal.defs _ _).mono
      (fun r h c => ⟨(h c).1.trans ((result_stages m' c).trans (results_agree m g _ _ _ _ _ _ c hpre (hagree c).1
        (hagree c).2.1 (hagree c).2.2.1 (hagree c).2.2.2.1 (hagree c).2.2.2.2.1 (hagree c).2.2.2.2.2)), (h c).2⟩)
      (Cert.ReferenceIdeal.Value.run (F := Ideal) m' g')⟩

/-- Every claim. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g,
    fun m g _ => Cert.KernelIdeal.Gen.frame m g, reference_frame, reference_frame_finite, constants, values⟩

end Cert.Proof

end
